-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S16x10x90x128 : Shape := ⟨4, ![16, 10, 90, 128]⟩
abbrev S16x320x90x128 : Shape := ⟨4, ![16, 320, 90, 128]⟩
abbrev S1440x10x3x8 : Shape := ⟨4, ![1440, 10, 3, 8]⟩
abbrev S1440x10x32x8 : Shape := ⟨4, ![1440, 10, 32, 8]⟩
abbrev S128x128 : Shape := ⟨2, ![128, 128]⟩
abbrev S128x384 : Shape := ⟨2, ![128, 384]⟩
abbrev S1440x10x10 : Shape := ⟨3, ![1440, 10, 10]⟩
abbrev S1440x10x320 : Shape := ⟨3, ![1440, 10, 320]⟩
abbrev S_ : Shape := ⟨0, ![]⟩

class Facts : Prop where
  bcast_S_S16x10x90x128 : S_.BroadcastsInDim S16x10x90x128 (![] : Fin 0 → Fin S16x10x90x128.rank)
  bcast_S_S16x320x90x128 : S_.BroadcastsInDim S16x320x90x128 (![] : Fin 0 → Fin S16x320x90x128.rank)
  bcast_S_S1440x10x3x8 : S_.BroadcastsInDim S1440x10x3x8 (![] : Fin 0 → Fin S1440x10x3x8.rank)
  bcast_S_S1440x10x32x8 : S_.BroadcastsInDim S1440x10x32x8 (![] : Fin 0 → Fin S1440x10x32x8.rank)
  bcast_S_S128x128 : S_.BroadcastsInDim S128x128 (![] : Fin 0 → Fin S128x128.rank)
  bcast_S_S128x384 : S_.BroadcastsInDim S128x384 (![] : Fin 0 → Fin S128x384.rank)
  bcast_S_S1440x10x10 : S_.BroadcastsInDim S1440x10x10 (![] : Fin 0 → Fin S1440x10x10.rank)
  bcast_S_S1440x10x320 : S_.BroadcastsInDim S1440x10x320 (![] : Fin 0 → Fin S1440x10x320.rank)

variable [Facts]

def fn_part2 {F : FTy → Type} [FloatOps F] (main_arg11 : IVec S1440x10x320 32) (main_v2 : IVec S16x10x90x128 1) (main_v5 : IVec S16x320x90x128 1) (main_v8 : IVec S1440x10x3x8 1) (main_v11 : IVec S1440x10x32x8 1) (main_v14 : IVec S128x128 1) (main_v17 : IVec S128x128 1) (main_v20 : IVec S128x128 1) (main_v23 : IVec S128x128 1) (main_v26 : IVec S128x384 1) (main_v31 : IVec S1440x10x10 1) (main_v33 : IVec S1440x10x320 1) (main_v34 : IVec S1440x10x320 32) : IVec S16x10x90x128 1 × IVec S16x320x90x128 1 × IVec S1440x10x3x8 1 × IVec S1440x10x32x8 1 × IVec S128x128 1 × IVec S128x128 1 × IVec S128x128 1 × IVec S128x128 1 × IVec S128x384 1 × IVec S1440x10x10 1 × IVec S1440x10x320 1 :=
  let main_v35 : IVec S1440x10x320 1 := cmpi .slt main_arg11 main_v34
  let main_v36 : IVec S1440x10x320 1 := andi main_v33 main_v35
  (main_v2, main_v5, main_v8, main_v11, main_v14, main_v17, main_v20, main_v23, main_v26, main_v31, main_v36)

def fn_part1 {F : FTy → Type} [FloatOps F] (main_arg6 : FVec F S128x128 .f32) (main_arg7 : FVec F S128x128 .f32) (main_arg8 : FVec F S128x384 .f32) (main_arg10 : IVec S1440x10x10 32) (main_arg11 : IVec S1440x10x320 32) (main_v2 : IVec S16x10x90x128 1) (main_v5 : IVec S16x320x90x128 1) (main_v8 : IVec S1440x10x3x8 1) (main_v11 : IVec S1440x10x32x8 1) (main_v14 : IVec S128x128 1) (main_v17 : IVec S128x128 1) : IVec S16x10x90x128 1 × IVec S16x320x90x128 1 × IVec S1440x10x3x8 1 × IVec S1440x10x32x8 1 × IVec S128x128 1 × IVec S128x128 1 × IVec S128x128 1 × IVec S128x128 1 × IVec S128x384 1 × IVec S1440x10x10 1 × IVec S1440x10x320 1 :=
  let main_v18 : FVec F S128x128 .f32 := Host.absf main_arg6
  let main_cst_5 : FVec F S_ .f32 := constant S_ .f32 0x7F800000#32
  let main_v19 : FVec F S128x128 .f32 := broadcastInDim S128x128 ![] bcast_S_S128x128 main_cst_5
  let main_v20 : IVec S128x128 1 := cmpf .olt main_v18 main_v19
  let main_v21 : FVec F S128x128 .f32 := Host.absf main_arg7
  let main_cst_6 : FVec F S_ .f32 := constant S_ .f32 0x7F800000#32
  let main_v22 : FVec F S128x128 .f32 := broadcastInDim S128x128 ![] bcast_S_S128x128 main_cst_6
  let main_v23 : IVec S128x128 1 := cmpf .olt main_v21 main_v22
  let main_v24 : FVec F S128x384 .f32 := Host.absf main_arg8
  let main_cst_7 : FVec F S_ .f32 := constant S_ .f32 0x7F800000#32
  let main_v25 : FVec F S128x384 .f32 := broadcastInDim S128x384 ![] bcast_S_S128x384 main_cst_7
  let main_v26 : IVec S128x384 1 := cmpf .olt main_v24 main_v25
  let main_c : IVec S_ 32 := constantI S_ 32 0#32
  let main_v27 : IVec S1440x10x10 32 := broadcastInDim S1440x10x10 ![] bcast_S_S1440x10x10 main_c
  let main_v28 : IVec S1440x10x10 1 := cmpi .sge main_arg10 main_v27
  let main_c_8 : IVec S_ 32 := constantI S_ 32 3#32
  let main_v29 : IVec S1440x10x10 32 := broadcastInDim S1440x10x10 ![] bcast_S_S1440x10x10 main_c_8
  let main_v30 : IVec S1440x10x10 1 := cmpi .slt main_arg10 main_v29
  let main_v31 : IVec S1440x10x10 1 := andi main_v28 main_v30
  let main_c_9 : IVec S_ 32 := constantI S_ 32 0#32
  let main_v32 : IVec S1440x10x320 32 := broadcastInDim S1440x10x320 ![] bcast_S_S1440x10x320 main_c_9
  let main_v33 : IVec S1440x10x320 1 := cmpi .sge main_arg11 main_v32
  let main_c_10 : IVec S_ 32 := constantI S_ 32 32#32
  let main_v34 : IVec S1440x10x320 32 := broadcastInDim S1440x10x320 ![] bcast_S_S1440x10x320 main_c_10
  fn_part2 (F := F) main_arg11 main_v2 main_v5 main_v8 main_v11 main_v14 main_v17 main_v20 main_v23 main_v26 main_v31 main_v33 main_v34

def fn {F : FTy → Type} [FloatOps F] (main_arg0 : FVec F S16x10x90x128 .f32) (main_arg1 : FVec F S16x320x90x128 .f32) (main_arg2 : FVec F S1440x10x3x8 .f32) (main_arg3 : FVec F S1440x10x32x8 .f32) (main_arg4 : FVec F S128x128 .f32) (main_arg5 : FVec F S128x128 .f32) (main_arg6 : FVec F S128x128 .f32) (main_arg7 : FVec F S128x128 .f32) (main_arg8 : FVec F S128x384 .f32) (main_arg9 : FVec F S128x128 .f32) (main_arg10 : IVec S1440x10x10 32) (main_arg11 : IVec S1440x10x320 32) : IVec S16x10x90x128 1 × IVec S16x320x90x128 1 × IVec S1440x10x3x8 1 × IVec S1440x10x32x8 1 × IVec S128x128 1 × IVec S128x128 1 × IVec S128x128 1 × IVec S128x128 1 × IVec S128x384 1 × IVec S1440x10x10 1 × IVec S1440x10x320 1 :=
  let main_v0 : FVec F S16x10x90x128 .f32 := Host.absf main_arg0
  let main_cst : FVec F S_ .f32 := constant S_ .f32 0x7F800000#32
  let main_v1 : FVec F S16x10x90x128 .f32 := broadcastInDim S16x10x90x128 ![] bcast_S_S16x10x90x128 main_cst
  let main_v2 : IVec S16x10x90x128 1 := cmpf .olt main_v0 main_v1
  let main_v3 : FVec F S16x320x90x128 .f32 := Host.absf main_arg1
  let main_cst_0 : FVec F S_ .f32 := constant S_ .f32 0x7F800000#32
  let main_v4 : FVec F S16x320x90x128 .f32 := broadcastInDim S16x320x90x128 ![] bcast_S_S16x320x90x128 main_cst_0
  let main_v5 : IVec S16x320x90x128 1 := cmpf .olt main_v3 main_v4
  let main_v6 : FVec F S1440x10x3x8 .f32 := Host.absf main_arg2
  let main_cst_1 : FVec F S_ .f32 := constant S_ .f32 0x7F800000#32
  let main_v7 : FVec F S1440x10x3x8 .f32 := broadcastInDim S1440x10x3x8 ![] bcast_S_S1440x10x3x8 main_cst_1
  let main_v8 : IVec S1440x10x3x8 1 := cmpf .olt main_v6 main_v7
  let main_v9 : FVec F S1440x10x32x8 .f32 := Host.absf main_arg3
  let main_cst_2 : FVec F S_ .f32 := constant S_ .f32 0x7F800000#32
  let main_v10 : FVec F S1440x10x32x8 .f32 := broadcastInDim S1440x10x32x8 ![] bcast_S_S1440x10x32x8 main_cst_2
  let main_v11 : IVec S1440x10x32x8 1 := cmpf .olt main_v9 main_v10
  let main_v12 : FVec F S128x128 .f32 := Host.absf main_arg4
  let main_cst_3 : FVec F S_ .f32 := constant S_ .f32 0x7F800000#32
  let main_v13 : FVec F S128x128 .f32 := broadcastInDim S128x128 ![] bcast_S_S128x128 main_cst_3
  let main_v14 : IVec S128x128 1 := cmpf .olt main_v12 main_v13
  let main_v15 : FVec F S128x128 .f32 := Host.absf main_arg5
  let main_cst_4 : FVec F S_ .f32 := constant S_ .f32 0x7F800000#32
  let main_v16 : FVec F S128x128 .f32 := broadcastInDim S128x128 ![] bcast_S_S128x128 main_cst_4
  let main_v17 : IVec S128x128 1 := cmpf .olt main_v15 main_v16
  fn_part1 (F := F) main_arg6 main_arg7 main_arg8 main_arg10 main_arg11 main_v2 main_v5 main_v8 main_v11 main_v14 main_v17
-- ==== Kernel.lean ====
abbrev S16x10x90x128 : Shape := ⟨4, ![16, 10, 90, 128]⟩
abbrev S16x320x90x128 : Shape := ⟨4, ![16, 320, 90, 128]⟩
abbrev S1440x10x3x8 : Shape := ⟨4, ![1440, 10, 3, 8]⟩
abbrev S1440x10x32x8 : Shape := ⟨4, ![1440, 10, 32, 8]⟩
abbrev S128x128 : Shape := ⟨2, ![128, 128]⟩
abbrev S128x384 : Shape := ⟨2, ![128, 384]⟩
abbrev S1440x10x10 : Shape := ⟨3, ![1440, 10, 10]⟩
abbrev S1440x10x320 : Shape := ⟨3, ![1440, 10, 320]⟩
abbrev S_ : Shape := ⟨0, ![]⟩
abbrev S128x256 : Shape := ⟨2, ![128, 256]⟩
abbrev S720 : Shape := ⟨1, ![720]⟩
abbrev S128 : Shape := ⟨1, ![128]⟩
abbrev S1x128 : Shape := ⟨2, ![1, 128]⟩
abbrev S720x1 : Shape := ⟨2, ![720, 1]⟩
abbrev S720x128 : Shape := ⟨2, ![720, 128]⟩
abbrev S90 : Shape := ⟨1, ![90]⟩
abbrev S1x90 : Shape := ⟨2, ![1, 90]⟩
abbrev S720x90 : Shape := ⟨2, ![720, 90]⟩
abbrev S90x1 : Shape := ⟨2, ![90, 1]⟩
abbrev S1x720 : Shape := ⟨2, ![1, 720]⟩
abbrev S90x720 : Shape := ⟨2, ![90, 720]⟩
abbrev S1440x10x128 : Shape := ⟨3, ![1440, 10, 128]⟩
abbrev S1x1x90x128 : Shape := ⟨4, ![1, 1, 90, 128]⟩
abbrev S1x32x90x128 : Shape := ⟨4, ![1, 32, 90, 128]⟩
abbrev S9x10x32x8 : Shape := ⟨4, ![9, 10, 32, 8]⟩
abbrev S9x10x320 : Shape := ⟨3, ![9, 10, 320]⟩
abbrev S9x10x3x8 : Shape := ⟨4, ![9, 10, 3, 8]⟩
abbrev S9x10x10 : Shape := ⟨3, ![9, 10, 10]⟩
abbrev S9x10x128 : Shape := ⟨3, ![9, 10, 128]⟩
abbrev S90x128 : Shape := ⟨2, ![90, 128]⟩
abbrev S2880x128 : Shape := ⟨2, ![2880, 128]⟩
abbrev S2880x256 : Shape := ⟨2, ![2880, 256]⟩
abbrev S9x10x8x32 : Shape := ⟨4, ![9, 10, 8, 32]⟩
abbrev S720x32 : Shape := ⟨2, ![720, 32]⟩
abbrev S9x10x1x320 : Shape := ⟨4, ![9, 10, 1, 320]⟩
abbrev S9x10x8x320 : Shape := ⟨4, ![9, 10, 8, 320]⟩
abbrev S720x320 : Shape := ⟨2, ![720, 320]⟩
abbrev S720x96 : Shape := ⟨2, ![720, 96]⟩
abbrev S720x64 : Shape := ⟨2, ![720, 64]⟩
abbrev S720x384 : Shape := ⟨2, ![720, 384]⟩
abbrev S720x128x1 : Shape := ⟨3, ![720, 128, 1]⟩
abbrev S80x128 : Shape := ⟨2, ![80, 128]⟩
abbrev S320x128 : Shape := ⟨2, ![320, 128]⟩
abbrev S80x320 : Shape := ⟨2, ![80, 320]⟩
abbrev S80 : Shape := ⟨1, ![80]⟩
abbrev S80x1 : Shape := ⟨2, ![80, 1]⟩
abbrev S90x384 : Shape := ⟨2, ![90, 384]⟩
abbrev S9x10x8x3 : Shape := ⟨4, ![9, 10, 8, 3]⟩
abbrev S720x3 : Shape := ⟨2, ![720, 3]⟩
abbrev S9x10x1x10 : Shape := ⟨4, ![9, 10, 1, 10]⟩
abbrev S9x10x8x10 : Shape := ⟨4, ![9, 10, 8, 10]⟩
abbrev S720x10 : Shape := ⟨2, ![720, 10]⟩
abbrev S720x1x10 : Shape := ⟨3, ![720, 1, 10]⟩
abbrev S720x9x10 : Shape := ⟨3, ![720, 9, 10]⟩
abbrev S720x125 : Shape := ⟨2, ![720, 125]⟩
abbrev S720x38 : Shape := ⟨2, ![720, 38]⟩

abbrev nBuf : Space → Nat
  | .hbm => 173
  | .vmem => 24
  | .smem => 0
  | _ => 0

abbrev hbmTy0_0 (i : Nat) : BufTy := match i % 128 with
  | 0 => ⟨S16x10x90x128, .f32⟩
  | 1 => ⟨S16x320x90x128, .f32⟩
  | 2 => ⟨S1440x10x3x8, .f32⟩
  | 3 => ⟨S1440x10x32x8, .f32⟩
  | 4 => ⟨S128x128, .f32⟩
  | 5 => ⟨S128x128, .f32⟩
  | 6 => ⟨S128x128, .f32⟩
  | 7 => ⟨S128x128, .f32⟩
  | 8 => ⟨S128x384, .f32⟩
  | 9 => ⟨S128x128, .f32⟩
  | 10 => ⟨S1440x10x10, .i32⟩
  | 11 => ⟨S1440x10x320, .i32⟩
  | 12 => ⟨S_, .f32⟩
  | 13 => ⟨S128x128, .f32⟩
  | 14 => ⟨S128x128, .f32⟩
  | 15 => ⟨S128x128, .bf16⟩
  | 16 => ⟨S128x256, .f32⟩
  | 17 => ⟨S128x256, .bf16⟩
  | 18 => ⟨S128x128, .f32⟩
  | 19 => ⟨S_, .f32⟩
  | 20 => ⟨S128x128, .f32⟩
  | 21 => ⟨S128x128, .f32⟩
  | 22 => ⟨S128x256, .f32⟩
  | 23 => ⟨S128x384, .f32⟩
  | 24 => ⟨S128x384, .bf16⟩
  | 25 => ⟨S128x128, .bf16⟩
  | 26 => ⟨S128x128, .bf16⟩
  | 27 => ⟨S720, .i32⟩
  | 28 => ⟨S128, .i32⟩
  | 29 => ⟨S1x128, .i32⟩
  | 30 => ⟨S_, .i32⟩
  | 31 => ⟨S_, .i32⟩
  | 32 => ⟨S1x128, .i32⟩
  | 33 => ⟨S1x128, .i32⟩
  | 34 => ⟨S1x128, .i32⟩
  | 35 => ⟨S_, .i32⟩
  | 36 => ⟨S1x128, .i32⟩
  | 37 => ⟨S1x128, .i1⟩
  | 38 => ⟨S1x128, .i32⟩
  | 39 => ⟨S1x128, .i32⟩
  | 40 => ⟨S_, .i32⟩
  | 41 => ⟨S1x128, .i32⟩
  | 42 => ⟨S1x128, .i1⟩
  | 43 => ⟨S1x128, .i1⟩
  | 44 => ⟨S_, .i32⟩
  | 45 => ⟨S1x128, .i32⟩
  | 46 => ⟨S1x128, .i32⟩
  | 47 => ⟨S1x128, .i32⟩
  | 48 => ⟨S720x1, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S720x1, .i32⟩
  | 56 => ⟨S720x1, .i32⟩
  | 57 => ⟨S_, .i32⟩
  | 58 => ⟨S720x1, .i32⟩
  | 59 => ⟨S720x1, .i1⟩
  | 60 => ⟨S_, .i32⟩
  | 61 => ⟨S720x1, .i32⟩
  | 62 => ⟨S720x1, .i1⟩
  | 63 => ⟨S_, .i32⟩
  | 64 => ⟨S_, .i1⟩
  | 65 => ⟨S720x1, .i1⟩
  | 66 => ⟨S720x1, .i1⟩
  | 67 => ⟨S720x1, .i1⟩
  | 68 => ⟨S720x1, .i32⟩
  | 69 => ⟨S720x1, .i32⟩
  | 70 => ⟨S720x1, .i32⟩
  | 71 => ⟨S720x128, .i32⟩
  | 72 => ⟨S720x128, .i32⟩
  | 73 => ⟨S720x128, .i1⟩
  | 74 => ⟨S720x128, .f32⟩
  | 75 => ⟨S720x128, .bf16⟩
  | 76 => ⟨S90, .i32⟩
  | 77 => ⟨S720x1, .i32⟩
  | 78 => ⟨S_, .i32⟩
  | 79 => ⟨S_, .i32⟩
  | 80 => ⟨S720x1, .i32⟩
  | 81 => ⟨S720x1, .i32⟩
  | 82 => ⟨S720x1, .i32⟩
  | 83 => ⟨S_, .i32⟩
  | 84 => ⟨S720x1, .i32⟩
  | 85 => ⟨S720x1, .i1⟩
  | 86 => ⟨S720x1, .i32⟩
  | 87 => ⟨S720x1, .i32⟩
  | 88 => ⟨S_, .i32⟩
  | 89 => ⟨S720x1, .i32⟩
  | 90 => ⟨S720x1, .i1⟩
  | 91 => ⟨S720x1, .i1⟩
  | 92 => ⟨S_, .i32⟩
  | 93 => ⟨S720x1, .i32⟩
  | 94 => ⟨S720x1, .i32⟩
  | 95 => ⟨S720x1, .i32⟩
  | 96 => ⟨S1x90, .i32⟩
  | 97 => ⟨S720x90, .i32⟩
  | 98 => ⟨S720x90, .i32⟩
  | 99 => ⟨S720x90, .i1⟩
  | 100 => ⟨S720x90, .bf16⟩
  | 101 => ⟨S90x1, .i32⟩
  | 102 => ⟨S1x720, .i32⟩
  | 103 => ⟨S_, .i32⟩
  | 104 => ⟨S_, .i32⟩
  | 105 => ⟨S1x720, .i32⟩
  | 106 => ⟨S1x720, .i32⟩
  | 107 => ⟨S1x720, .i32⟩
  | 108 => ⟨S_, .i32⟩
  | 109 => ⟨S1x720, .i32⟩
  | 110 => ⟨S1x720, .i1⟩
  | 111 => ⟨S1x720, .i32⟩
  | 112 => ⟨S1x720, .i32⟩
  | 113 => ⟨S_, .i32⟩
  | 114 => ⟨S1x720, .i32⟩
  | 115 => ⟨S1x720, .i1⟩
  | 116 => ⟨S1x720, .i1⟩
  | 117 => ⟨S_, .i32⟩
  | 118 => ⟨S1x720, .i32⟩
  | 119 => ⟨S1x720, .i32⟩
  | 120 => ⟨S1x720, .i32⟩
  | 121 => ⟨S90x720, .i32⟩
  | 122 => ⟨S90x720, .i32⟩
  | 123 => ⟨S90x720, .i1⟩
  | 124 => ⟨S90x720, .bf16⟩
  | 125 => ⟨S720x1, .i32⟩
  | 126 => ⟨S_, .i32⟩
  | 127 => ⟨S_, .i32⟩
  | _ => ⟨S16x10x90x128, .f32⟩

abbrev hbmTy0_1 (i : Nat) : BufTy := match i % 128 with
  | 0 => ⟨S720x1, .i32⟩
  | 1 => ⟨S720x1, .i32⟩
  | 2 => ⟨S720x1, .i32⟩
  | 3 => ⟨S_, .i32⟩
  | 4 => ⟨S720x1, .i32⟩
  | 5 => ⟨S720x1, .i1⟩
  | 6 => ⟨S720x1, .i32⟩
  | 7 => ⟨S720x1, .i32⟩
  | 8 => ⟨S_, .i32⟩
  | 9 => ⟨S720x1, .i32⟩
  | 10 => ⟨S720x1, .i1⟩
  | 11 => ⟨S720x1, .i1⟩
  | 12 => ⟨S_, .i32⟩
  | 13 => ⟨S720x1, .i32⟩
  | 14 => ⟨S720x1, .i32⟩
  | 15 => ⟨S720x1, .i32⟩
  | 16 => ⟨S1x90, .i32⟩
  | 17 => ⟨S_, .i32⟩
  | 18 => ⟨S_, .i32⟩
  | 19 => ⟨S1x90, .i32⟩
  | 20 => ⟨S1x90, .i32⟩
  | 21 => ⟨S1x90, .i32⟩
  | 22 => ⟨S_, .i32⟩
  | 23 => ⟨S1x90, .i32⟩
  | 24 => ⟨S1x90, .i1⟩
  | 25 => ⟨S1x90, .i32⟩
  | 26 => ⟨S1x90, .i32⟩
  | 27 => ⟨S_, .i32⟩
  | 28 => ⟨S1x90, .i32⟩
  | 29 => ⟨S1x90, .i1⟩
  | 30 => ⟨S1x90, .i1⟩
  | 31 => ⟨S_, .i32⟩
  | 32 => ⟨S1x90, .i32⟩
  | 33 => ⟨S1x90, .i32⟩
  | 34 => ⟨S1x90, .i32⟩
  | 35 => ⟨S720x90, .i32⟩
  | 36 => ⟨S720x90, .i32⟩
  | 37 => ⟨S720x90, .i1⟩
  | 38 => ⟨S_, .f32⟩
  | 39 => ⟨S_, .f32⟩
  | 40 => ⟨S720x90, .f32⟩
  | 41 => ⟨S720x90, .f32⟩
  | 42 => ⟨S720x90, .f32⟩
  | 43 => ⟨S720x90, .f32⟩
  | 44 => ⟨S1440x10x128, .f32⟩
  | _ => ⟨S16x10x90x128, .f32⟩

abbrev hbmTy (i : Nat) : BufTy := match i / 128 with
  | 0 => hbmTy0_0 i
  | 1 => hbmTy0_1 i
  | _ => ⟨S16x10x90x128, .f32⟩

abbrev bufTy : (tb : Table) → Fin (tcTables nBuf tb) → BufTy
  | .hbm, ⟨i, _⟩ => hbmTy i
  | .local _ .vmem, ⟨0, _⟩ => ⟨S1x1x90x128, .f32⟩
  | .local _ .vmem, ⟨1, _⟩ => ⟨S1x1x90x128, .f32⟩
  | .local _ .vmem, ⟨2, _⟩ => ⟨S1x32x90x128, .f32⟩
  | .local _ .vmem, ⟨3, _⟩ => ⟨S1x32x90x128, .f32⟩
  | .local _ .vmem, ⟨4, _⟩ => ⟨S9x10x32x8, .f32⟩
  | .local _ .vmem, ⟨5, _⟩ => ⟨S9x10x32x8, .f32⟩
  | .local _ .vmem, ⟨6, _⟩ => ⟨S9x10x320, .i32⟩
  | .local _ .vmem, ⟨7, _⟩ => ⟨S9x10x320, .i32⟩
  | .local _ .vmem, ⟨8, _⟩ => ⟨S9x10x3x8, .f32⟩
  | .local _ .vmem, ⟨9, _⟩ => ⟨S9x10x3x8, .f32⟩
  | .local _ .vmem, ⟨10, _⟩ => ⟨S9x10x10, .i32⟩
  | .local _ .vmem, ⟨11, _⟩ => ⟨S9x10x10, .i32⟩
  | .local _ .vmem, ⟨12, _⟩ => ⟨S720x128, .bf16⟩
  | .local _ .vmem, ⟨13, _⟩ => ⟨S720x128, .f32⟩
  | .local _ .vmem, ⟨14, _⟩ => ⟨S720x90, .bf16⟩
  | .local _ .vmem, ⟨15, _⟩ => ⟨S90x720, .bf16⟩
  | .local _ .vmem, ⟨16, _⟩ => ⟨S720x90, .f32⟩
  | .local _ .vmem, ⟨17, _⟩ => ⟨S128x128, .bf16⟩
  | .local _ .vmem, ⟨18, _⟩ => ⟨S128x256, .bf16⟩
  | .local _ .vmem, ⟨19, _⟩ => ⟨S128x128, .bf16⟩
  | .local _ .vmem, ⟨20, _⟩ => ⟨S128x384, .bf16⟩
  | .local _ .vmem, ⟨21, _⟩ => ⟨S128x128, .bf16⟩
  | .local _ .vmem, ⟨22, _⟩ => ⟨S9x10x128, .f32⟩
  | .local _ .vmem, ⟨23, _⟩ => ⟨S9x10x128, .f32⟩
  | _, _ => ⟨S16x10x90x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v16 : Ref sig .tc := ⟨.hbm, 47, rfl⟩
abbrev main_v17 : Ref sig .tc := ⟨.hbm, 48, rfl⟩
abbrev main_c_1 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_1 : Ref sig .tc := ⟨.hbm, 57, rfl⟩
abbrev main_call1_v5 : Ref sig .tc := ⟨.hbm, 58, rfl⟩
abbrev main_call1_v6 : Ref sig .tc := ⟨.hbm, 59, rfl⟩
abbrev main_call1_c_2 : Ref sig .tc := ⟨.hbm, 60, rfl⟩
abbrev main_call1_v7 : Ref sig .tc := ⟨.hbm, 61, rfl⟩
abbrev main_call1_v8 : Ref sig .tc := ⟨.hbm, 62, rfl⟩
abbrev main_call1_c_3 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_c_2 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_c : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_0 : Ref sig .tc := ⟨.hbm, 92, rfl⟩
abbrev main_call2_v12 : Ref sig .tc := ⟨.hbm, 93, rfl⟩
abbrev main_call2_v13 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_c_3 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_c : Ref sig .tc := ⟨.hbm, 113, rfl⟩
abbrev main_call3_v9 : Ref sig .tc := ⟨.hbm, 114, rfl⟩
abbrev main_call3_v10 : Ref sig .tc := ⟨.hbm, 115, rfl⟩
abbrev main_call3_v11 : Ref sig .tc := ⟨.hbm, 116, rfl⟩
abbrev main_call3_c_0 : Ref sig .tc := ⟨.hbm, 117, rfl⟩
abbrev main_call3_v12 : Ref sig .tc := ⟨.hbm, 118, rfl⟩
abbrev main_call3_v13 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩
abbrev main_c_4 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_call4_v5 : Ref sig .tc := ⟨.hbm, 132, rfl⟩
abbrev main_call4_v6 : Ref sig .tc := ⟨.hbm, 133, rfl⟩
abbrev main_call4_v7 : Ref sig .tc := ⟨.hbm, 134, rfl⟩
abbrev main_call4_v8 : Ref sig .tc := ⟨.hbm, 135, rfl⟩
abbrev main_call4_c : Ref sig .tc := ⟨.hbm, 136, rfl⟩
abbrev main_call4_v9 : Ref sig .tc := ⟨.hbm, 137, rfl⟩
abbrev main_call4_v10 : Ref sig .tc := ⟨.hbm, 138, rfl⟩
abbrev main_call4_v11 : Ref sig .tc := ⟨.hbm, 139, rfl⟩
abbrev main_call4_c_0 : Ref sig .tc := ⟨.hbm, 140, rfl⟩
abbrev main_call4_v12 : Ref sig .tc := ⟨.hbm, 141, rfl⟩
abbrev main_call4_v13 : Ref sig .tc := ⟨.hbm, 142, rfl⟩
abbrev main_v40 : Ref sig .tc := ⟨.hbm, 143, rfl⟩
abbrev main_v41 : Ref sig .tc := ⟨.hbm, 144, rfl⟩
abbrev main_c_5 : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_v5 : Ref sig .tc := ⟨.hbm, 151, rfl⟩
abbrev main_call5_v6 : Ref sig .tc := ⟨.hbm, 152, rfl⟩
abbrev main_call5_v7 : Ref sig .tc := ⟨.hbm, 153, rfl⟩
abbrev main_call5_v8 : Ref sig .tc := ⟨.hbm, 154, rfl⟩
abbrev main_call5_c : Ref sig .tc := ⟨.hbm, 155, rfl⟩
abbrev main_call5_v9 : Ref sig .tc := ⟨.hbm, 156, rfl⟩
abbrev main_call5_v10 : Ref sig .tc := ⟨.hbm, 157, rfl⟩
abbrev main_call5_v11 : Ref sig .tc := ⟨.hbm, 158, rfl⟩
abbrev main_call5_c_0 : Ref sig .tc := ⟨.hbm, 159, rfl⟩
abbrev main_call5_v12 : Ref sig .tc := ⟨.hbm, 160, rfl⟩
abbrev main_call5_v13 : Ref sig .tc := ⟨.hbm, 161, rfl⟩
abbrev main_v42 : Ref sig .tc := ⟨.hbm, 162, rfl⟩
abbrev main_v43 : Ref sig .tc := ⟨.hbm, 163, rfl⟩
abbrev main_v44 : Ref sig .tc := ⟨.hbm, 164, rfl⟩
abbrev main_v45 : Ref sig .tc := ⟨.hbm, 165, rfl⟩
abbrev main_cst_6 : Ref sig .tc := ⟨.hbm, 166, rfl⟩
abbrev main_cst_7 : Ref sig .tc := ⟨.hbm, 167, rfl⟩
abbrev main_call6_v0 : Ref sig .tc := ⟨.hbm, 168, rfl⟩
abbrev main_call6_v1 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨2, ![16, 10], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1x90x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x90x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S9x10x32x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S9x10x320 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S9x10x3x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S9x10x10 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S720x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S720x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S720x90 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S90x720 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S720x90 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x384 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S9x10x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x10x90x128 : Shape := ⟨4, ![16, 10, 90, 128]⟩
abbrev S16x320x90x128 : Shape := ⟨4, ![16, 320, 90, 128]⟩
abbrev S1440x10x3x8 : Shape := ⟨4, ![1440, 10, 3, 8]⟩
abbrev S1440x10x32x8 : Shape := ⟨4, ![1440, 10, 32, 8]⟩
abbrev S128x128 : Shape := ⟨2, ![128, 128]⟩
abbrev S128x384 : Shape := ⟨2, ![128, 384]⟩
abbrev S1440x10x10 : Shape := ⟨3, ![1440, 10, 10]⟩
abbrev S1440x10x320 : Shape := ⟨3, ![1440, 10, 320]⟩
abbrev S1440x10x128 : Shape := ⟨3, ![1440, 10, 128]⟩
abbrev S1440x320x128 : Shape := ⟨3, ![1440, 320, 128]⟩
abbrev S1440x10x8x16 : Shape := ⟨4, ![1440, 10, 8, 16]⟩
abbrev S1440x8x10x16 : Shape := ⟨4, ![1440, 8, 10, 16]⟩
abbrev S1440x320x8x16 : Shape := ⟨4, ![1440, 320, 8, 16]⟩
abbrev S1440x8x320x16 : Shape := ⟨4, ![1440, 8, 320, 16]⟩
abbrev S1440x8x10x320 : Shape := ⟨4, ![1440, 8, 10, 320]⟩
abbrev S_ : Shape := ⟨0, ![]⟩
abbrev S1440x10x320x1 : Shape := ⟨4, ![1440, 10, 320, 1]⟩
abbrev S1440x10x320x8 : Shape := ⟨4, ![1440, 10, 320, 8]⟩
abbrev S1440x10x320x8x1 : Shape := ⟨5, ![1440, 10, 320, 8, 1]⟩
abbrev S1440x1x10x320 : Shape := ⟨4, ![1440, 1, 10, 320]⟩
abbrev S1440x8x10 : Shape := ⟨3, ![1440, 8, 10]⟩
abbrev S1440x8x10x1 : Shape := ⟨4, ![1440, 8, 10, 1]⟩
abbrev S1440x10x384 : Shape := ⟨3, ![1440, 10, 384]⟩
abbrev S1440x8x10x10 : Shape := ⟨4, ![1440, 8, 10, 10]⟩
abbrev S1440x10x10x1 : Shape := ⟨4, ![1440, 10, 10, 1]⟩
abbrev S1440x10x10x8 : Shape := ⟨4, ![1440, 10, 10, 8]⟩
abbrev S1440x10x10x8x1 : Shape := ⟨5, ![1440, 10, 10, 8, 1]⟩
abbrev S1440x1x10x10 : Shape := ⟨4, ![1440, 1, 10, 10]⟩

abbrev nBuf : Space → Nat
  | .hbm => 137
  | .vmem => 0
  | .smem => 0
  | _ => 0

abbrev hbmTy0_0 (i : Nat) : BufTy := match i % 128 with
  | 0 => ⟨S16x10x90x128, .f32⟩
  | 1 => ⟨S16x320x90x128, .f32⟩
  | 2 => ⟨S1440x10x3x8, .f32⟩
  | 3 => ⟨S1440x10x32x8, .f32⟩
  | 4 => ⟨S128x128, .f32⟩
  | 5 => ⟨S128x128, .f32⟩
  | 6 => ⟨S128x128, .f32⟩
  | 7 => ⟨S128x128, .f32⟩
  | 8 => ⟨S128x384, .f32⟩
  | 9 => ⟨S128x128, .f32⟩
  | 10 => ⟨S1440x10x10, .i32⟩
  | 11 => ⟨S1440x10x320, .i32⟩
  | 12 => ⟨S1440x10x128, .f32⟩
  | 13 => ⟨S1440x320x128, .f32⟩
  | 14 => ⟨S1440x10x128, .f32⟩
  | 15 => ⟨S1440x10x8x16, .f32⟩
  | 16 => ⟨S1440x8x10x16, .f32⟩
  | 17 => ⟨S1440x320x128, .f32⟩
  | 18 => ⟨S1440x320x8x16, .f32⟩
  | 19 => ⟨S1440x8x320x16, .f32⟩
  | 20 => ⟨S1440x320x128, .f32⟩
  | 21 => ⟨S1440x320x8x16, .f32⟩
  | 22 => ⟨S1440x8x320x16, .f32⟩
  | 23 => ⟨S1440x8x10x320, .f32⟩
  | 24 => ⟨S_, .f32⟩
  | 25 => ⟨S1440x8x10x320, .f32⟩
  | 26 => ⟨S1440x8x10x320, .f32⟩
  | 27 => ⟨S_, .i32⟩
  | 28 => ⟨S_, .i32⟩
  | 29 => ⟨S_, .i32⟩
  | 30 => ⟨S1440x10x320, .i32⟩
  | 31 => ⟨S1440x10x320, .i32⟩
  | 32 => ⟨S_, .i32⟩
  | 33 => ⟨S1440x10x320, .i32⟩
  | 34 => ⟨S1440x10x320, .i32⟩
  | 35 => ⟨S1440x10x320x1, .i32⟩
  | 36 => ⟨S1440x10x320x8, .i32⟩
  | 37 => ⟨S_, .i32⟩
  | 38 => ⟨S1440x10x320x8, .i32⟩
  | 39 => ⟨S1440x10x320x8, .i1⟩
  | 40 => ⟨S_, .i32⟩
  | 41 => ⟨S1440x10x320x8, .i32⟩
  | 42 => ⟨S1440x10x320x8, .i32⟩
  | 43 => ⟨S1440x10x320x8, .i32⟩
  | 44 => ⟨S1440x10x320x8x1, .i32⟩
  | 45 => ⟨S1440x10x320x8, .f32⟩
  | 46 => ⟨S1440x8x10x320, .f32⟩
  | 47 => ⟨S_, .i32⟩
  | 48 => ⟨S1440x10x320, .i32⟩
  | 49 => ⟨S1440x10x320, .i1⟩
  | 50 => ⟨S1440x1x10x320, .i1⟩
  | 51 => ⟨S1440x8x10x320, .f32⟩
  | 52 => ⟨S_, .f32⟩
  | 53 => ⟨S_, .f32⟩
  | 54 => ⟨S1440x8x10x320, .i1⟩
  | 55 => ⟨S1440x8x10x320, .f32⟩
  | 56 => ⟨S1440x8x10x320, .f32⟩
  | 57 => ⟨S_, .f32⟩
  | 58 => ⟨S1440x8x10, .f32⟩
  | 59 => ⟨S_, .f32⟩
  | 60 => ⟨S1440x8x10, .f32⟩
  | 61 => ⟨S1440x8x10, .f32⟩
  | 62 => ⟨S1440x8x10x1, .f32⟩
  | 63 => ⟨S1440x8x10x320, .f32⟩
  | 64 => ⟨S1440x8x10x320, .f32⟩
  | 65 => ⟨S1440x8x10x320, .f32⟩
  | 66 => ⟨S_, .f32⟩
  | 67 => ⟨S1440x8x10, .f32⟩
  | 68 => ⟨S1440x8x10x1, .f32⟩
  | 69 => ⟨S1440x8x10x320, .f32⟩
  | 70 => ⟨S1440x8x10x320, .f32⟩
  | 71 => ⟨S1440x8x10x16, .f32⟩
  | 72 => ⟨S1440x10x8x16, .f32⟩
  | 73 => ⟨S1440x10x128, .f32⟩
  | 74 => ⟨S1440x10x128, .f32⟩
  | 75 => ⟨S1440x10x384, .f32⟩
  | 76 => ⟨S1440x10x128, .f32⟩
  | 77 => ⟨S1440x10x128, .f32⟩
  | 78 => ⟨S1440x10x128, .f32⟩
  | 79 => ⟨S1440x10x8x16, .f32⟩
  | 80 => ⟨S1440x8x10x16, .f32⟩
  | 81 => ⟨S1440x10x8x16, .f32⟩
  | 82 => ⟨S1440x8x10x16, .f32⟩
  | 83 => ⟨S1440x10x8x16, .f32⟩
  | 84 => ⟨S1440x8x10x16, .f32⟩
  | 85 => ⟨S1440x8x10x10, .f32⟩
  | 86 => ⟨S_, .f32⟩
  | 87 => ⟨S1440x8x10x10, .f32⟩
  | 88 => ⟨S1440x8x10x10, .f32⟩
  | 89 => ⟨S_, .i32⟩
  | 90 => ⟨S_, .i32⟩
  | 91 => ⟨S_, .i32⟩
  | 92 => ⟨S1440x10x10, .i32⟩
  | 93 => ⟨S1440x10x10, .i32⟩
  | 94 => ⟨S_, .i32⟩
  | 95 => ⟨S1440x10x10, .i32⟩
  | 96 => ⟨S1440x10x10, .i32⟩
  | 97 => ⟨S1440x10x10x1, .i32⟩
  | 98 => ⟨S1440x10x10x8, .i32⟩
  | 99 => ⟨S_, .i32⟩
  | 100 => ⟨S1440x10x10x8, .i32⟩
  | 101 => ⟨S1440x10x10x8, .i1⟩
  | 102 => ⟨S_, .i32⟩
  | 103 => ⟨S1440x10x10x8, .i32⟩
  | 104 => ⟨S1440x10x10x8, .i32⟩
  | 105 => ⟨S1440x10x10x8, .i32⟩
  | 106 => ⟨S1440x10x10x8x1, .i32⟩
  | 107 => ⟨S1440x10x10x8, .f32⟩
  | 108 => ⟨S1440x8x10x10, .f32⟩
  | 109 => ⟨S_, .i32⟩
  | 110 => ⟨S1440x10x10, .i32⟩
  | 111 => ⟨S1440x10x10, .i1⟩
  | 112 => ⟨S1440x1x10x10, .i1⟩
  | 113 => ⟨S1440x8x10x10, .f32⟩
  | 114 => ⟨S_, .f32⟩
  | 115 => ⟨S_, .f32⟩
  | 116 => ⟨S1440x8x10x10, .i1⟩
  | 117 => ⟨S1440x8x10x10, .f32⟩
  | 118 => ⟨S1440x8x10x10, .f32⟩
  | 119 => ⟨S_, .f32⟩
  | 120 => ⟨S1440x8x10, .f32⟩
  | 121 => ⟨S_, .f32⟩
  | 122 => ⟨S1440x8x10, .f32⟩
  | 123 => ⟨S1440x8x10, .f32⟩
  | 124 => ⟨S1440x8x10x1, .f32⟩
  | 125 => ⟨S1440x8x10x10, .f32⟩
  | 126 => ⟨S1440x8x10x10, .f32⟩
  | 127 => ⟨S1440x8x10x10, .f32⟩
  | _ => ⟨S16x10x90x128, .f32⟩

abbrev hbmTy0_1 (i : Nat) : BufTy := match i % 128 with
  | 0 => ⟨S_, .f32⟩
  | 1 => ⟨S1440x8x10, .f32⟩
  | 2 => ⟨S1440x8x10x1, .f32⟩
  | 3 => ⟨S1440x8x10x10, .f32⟩
  | 4 => ⟨S1440x8x10x10, .f32⟩
  | 5 => ⟨S1440x8x10x16, .f32⟩
  | 6 => ⟨S1440x10x8x16, .f32⟩
  | 7 => ⟨S1440x10x128, .f32⟩
  | 8 => ⟨S1440x10x128, .f32⟩
  | _ => ⟨S16x10x90x128, .f32⟩

abbrev hbmTy (i : Nat) : BufTy := match i / 128 with
  | 0 => hbmTy0_0 i
  | 1 => hbmTy0_1 i
  | _ => ⟨S16x10x90x128, .f32⟩

abbrev bufTy : (tb : Table) → Fin (tcTables nBuf tb) → BufTy
  | .hbm, ⟨i, _⟩ => hbmTy i
  | _, _ => ⟨S16x10x90x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_c_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_v17 : Ref sig .tc := ⟨.hbm, 45, rfl⟩
abbrev main_v18 : Ref sig .tc := ⟨.hbm, 46, rfl⟩
abbrev main_c_1 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_2 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v23 : Ref sig .tc := ⟨.hbm, 56, rfl⟩
abbrev main_cst_3 : Ref sig .tc := ⟨.hbm, 57, rfl⟩
abbrev main_v24 : Ref sig .tc := ⟨.hbm, 58, rfl⟩
abbrev main_cst_4 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_5 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_6 : Ref sig .tc := ⟨.hbm, 86, rfl⟩
abbrev main_v50 : Ref sig .tc := ⟨.hbm, 87, rfl⟩
abbrev main_v51 : Ref sig .tc := ⟨.hbm, 88, rfl⟩
abbrev main_c_7 : Ref sig .tc := ⟨.hbm, 89, rfl⟩
abbrev main_c_8 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_call4_c : Ref sig .tc := ⟨.hbm, 99, rfl⟩
abbrev main_call4_v0 : Ref sig .tc := ⟨.hbm, 100, rfl⟩
abbrev main_call4_v1 : Ref sig .tc := ⟨.hbm, 101, rfl⟩
abbrev main_call4_c_0 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_v5 : Ref sig .tc := ⟨.hbm, 106, rfl⟩
abbrev main_v55 : Ref sig .tc := ⟨.hbm, 107, rfl⟩
abbrev main_v56 : Ref sig .tc := ⟨.hbm, 108, rfl⟩
abbrev main_c_9 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_cst_10 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v61 : Ref sig .tc := ⟨.hbm, 118, rfl⟩
abbrev main_cst_11 : Ref sig .tc := ⟨.hbm, 119, rfl⟩
abbrev main_v62 : Ref sig .tc := ⟨.hbm, 120, rfl⟩
abbrev main_cst_12 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_cst_13 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩

abbrev nD : Nat := 1
abbrev τ : Topo := Topo.v7x

variable {F : FTy → Type} [FloatOps F]
-- ==== Proof.Finite.lean ====
/- Arithmetic of extended reals that are finite: a softmax does not change when a finite number is taken off every
   score, and a factor of one quarter moves out of a score. -/
module

public import Idealize.ShloMosaic.Lib.Pointwise
public import Idealize.ShloMosaic.Lib.IdealHost

@[expose] public section

noncomputable section

namespace Cert.Attention

open Idealize.ShloMosaic

/-- An extended real that is a real number. -/
def Finite (x : EReal) : Prop := ∃ r : ℝ, x = (r : EReal)

/-- A real number is finite. -/
theorem finite_coe (r : ℝ) : Finite (r : EReal) := ⟨r, rfl⟩

/-- An extended real other than the two infinities is finite. -/
theorem finite_of_ne {x : EReal} (h₁ : x ≠ ⊤) (h₂ : x ≠ ⊥) : Finite x := ⟨x.toReal, (EReal.coe_toReal h₁ h₂).symm⟩

/-- A number whose absolute value is below `⊤` is finite. -/
theorem finite_of_abs_lt {x : EReal} (h : max x (-x) < ⊤) : Finite x := by
  refine finite_of_ne (fun e => ?_) (fun e => ?_)
  · subst e; simp at h
  · subst e; simp at h

/-- A sum of two finite numbers is finite. -/
theorem Finite.add {x y : EReal} (hx : Finite x) (hy : Finite y) : Finite (x + y) := by
  obtain ⟨a, rfl⟩ := hx; obtain ⟨b, rfl⟩ := hy; exact ⟨a + b, (EReal.coe_add a b).symm⟩

/-- A product of two finite numbers is finite. -/
theorem Finite.mul {x y : EReal} (hx : Finite x) (hy : Finite y) : Finite (x * y) := by
  obtain ⟨a, rfl⟩ := hx; obtain ⟨b, rfl⟩ := hy; exact ⟨a * b, (EReal.coe_mul a b).symm⟩

/-- A sum of real numbers, as extended reals, is the real sum. -/
theorem coe_sum {ι : Type} [Fintype ι] (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

/-- A sum of finite numbers is finite. -/
theorem Finite.sum {ι : Type} [Fintype ι] {f : ι → EReal} (h : ∀ i, Finite (f i)) : Finite (∑ i, f i) := by
  choose g hg using h
  exact ⟨∑ i, g i, by rw [← coe_sum]; exact Finset.sum_congr rfl fun i _ => hg i⟩

/-- The largest of finitely many finite numbers is finite. -/
theorem Finite.fold_max {n : ℕ} {f : Fin (n + 1) → EReal} (h : ∀ i, Finite (f i)) :
    Finite (Finset.univ.fold max ⊥ f) := by
  have key : ∀ s : Finset (Fin (n + 1)), s.Nonempty → Finite (s.fold max ⊥ f) := by
    intro s hs
    induction hs using Finset.Nonempty.cons_induction with
    | singleton a => simpa using h a
    | cons a s ha hs ih =>
      rw [Finset.fold_cons]
      rcases max_choice (f a) (s.fold max ⊥ f) with e | e <;> rw [e]
      · exact h a
      · exact ih
  exact key _ Finset.univ_nonempty

/-- A finite number over four, by the reference's constant. -/
theorem div_four {x : EReal} (y : EReal) (hx : Finite x) (hy : y = ((4 : ℝ) : EReal)) : Finite (Ideal.div x y) := by
  obtain ⟨a, rfl⟩ := hx
  subst hy
  rw [Ideal.div_coe (by norm_num)]
  exact ⟨a * (1 / 4), (EReal.coe_mul _ _).symm⟩

/-- The reference's weighted mean of `v` under the softmax of `s`, the scores taken relative to `M`. -/
def softmaxMean {ι : Type} [Fintype ι] (M : EReal) (s v : ι → EReal) : EReal :=
  ∑ j, Ideal.div (Ideal.exp (s j - M)) (∑ k, Ideal.exp (s k - M)) * v j

/-- The kernel's weighted mean of `v`: the exponentials as they stand, the sum divided out at the end. -/
def expMean {ι : Type} [Fintype ι] (s v : ι → EReal) : EReal :=
  (∑ j, Ideal.exp (s j) * v j) * Ideal.div 1 (∑ k, Ideal.exp (s k))

/-- The two weighted means at real numbers: both are the real weighted mean. -/
theorem mean_coe {ι : Type} [Fintype ι] [Nonempty ι] (M : ℝ) (s v : ι → ℝ) :
    softmaxMean (M : EReal) (fun j => (s j : EReal)) (fun j => (v j : EReal))
      = (((∑ j, Real.exp (s j) * v j) * (1 / ∑ k, Real.exp (s k)) : ℝ) : EReal)
    ∧ expMean (fun j => (s j : EReal)) (fun j => (v j : EReal))
      = (((∑ j, Real.exp (s j) * v j) * (1 / ∑ k, Real.exp (s k)) : ℝ) : EReal) := by
  have pos : ∀ t : ι → ℝ, (0 : ℝ) < ∑ k, Real.exp (t k) := fun t =>
    Finset.sum_pos (fun k _ => Real.exp_pos _) Finset.univ_nonempty
  constructor
  · unfold softmaxMean
    simp only [← EReal.coe_sub, Ideal.exp_coe, coe_sum]
    simp only [Ideal.div_coe (pos fun k => s k - M).ne', ← EReal.coe_mul, coe_sum]
    congr 1
    rw [Finset.sum_mul]
    refine Finset.sum_congr rfl fun j _ => ?_
    have e : ∑ k, Real.exp (s k - M) = (∑ k, Real.exp (s k)) * Real.exp (-M) := by
      rw [Finset.sum_mul]
      exact Finset.sum_congr rfl fun k _ => by rw [sub_eq_add_neg, Real.exp_add]
    rw [e, sub_eq_add_neg, Real.exp_add]
    have h₁ := (pos s).ne'
    have h₂ := (Real.exp_pos (-M)).ne'
    field_simp
  · unfold expMean
    simp only [Ideal.exp_coe, ← EReal.coe_mul, coe_sum]
    rw [Ideal.div_coe (pos s).ne', one_mul, ← EReal.coe_mul]

/-- The two weighted means agree at finite scores and values. -/
theorem expMean_eq {ι : Type} [Fintype ι] [Nonempty ι] {M : EReal} {s v : ι → EReal} (hM : Finite M)
    (hs : ∀ j, Finite (s j)) (hv : ∀ j, Finite (v j)) : expMean s v = softmaxMean M s v := by
  obtain ⟨M, rfl⟩ := hM
  choose s' hs' using hs
  choose v' hv' using hv
  obtain rfl : s = fun j => (s' j : EReal) := funext hs'
  obtain rfl : v = fun j => (v' j : EReal) := funext hv'
  exact (mean_coe M s' v').2.trans (mean_coe M s' v').1.symm

/-- The weighted mean of finite values under finite scores is finite. -/
theorem finite_softmaxMean {ι : Type} [Fintype ι] [Nonempty ι] {M : EReal} {s v : ι → EReal} (hM : Finite M)
    (hs : ∀ j, Finite (s j)) (hv : ∀ j, Finite (v j)) : Finite (softmaxMean M s v) := by
  obtain ⟨M, rfl⟩ := hM
  choose s' hs' using hs
  choose v' hv' using hv
  obtain rfl : s = fun j => (s' j : EReal) := funext hs'
  obtain rfl : v = fun j => (v' j : EReal) := funext hv'
  exact ⟨_, (mean_coe M s' v').1⟩

/-- A quarter taken into the query's weights is a quarter of the score. -/
theorem score_scale {m n : ℕ} {x : Fin m → EReal} {W : Fin m → Fin n → EReal} {k : Fin n → EReal} {q f : EReal}
    (hq : q = ((1 / 4 : ℝ) : EReal)) (hf : f = ((4 : ℝ) : EReal)) (hx : ∀ c, Finite (x c)) (hW : ∀ c e, Finite (W c e))
    (hk : ∀ e, Finite (k e)) :
    ∑ e, (∑ c, x c * (W c e * q)) * k e = Ideal.div (∑ e, (∑ c, x c * W c e) * k e) f := by
  choose x' hx' using hx
  choose W' hW' using hW
  choose k' hk' using hk
  subst hq hf
  rw [Ideal.div_coe (by norm_num)]
  simp only [hx', hW', hk', ← EReal.coe_mul, coe_sum]
  congr 1
  rw [Finset.sum_mul]
  refine Finset.sum_congr rfl fun e _ => ?_
  have h : ∑ c, x' c * (W' c e * (1 / 4)) = (∑ c, x' c * W' c e) * (1 / 4) := by
    rw [Finset.sum_mul]; exact Finset.sum_congr rfl fun c _ => by ring
  rw [h]; ring

/-- A sum of which only the terms at the images of an injection can differ from zero. -/
theorem sum_of_support {m n : ℕ} (e : Fin m → Fin n) (he : Function.Injective e) (g : Fin n → EReal)
    (h0 : ∀ i, i ∉ Set.range e → g i = 0) : ∑ i, g i = ∑ a, g (e a) :=
  (Fintype.sum_of_injective e he (fun a => g (e a)) g h0 fun _ => rfl).symm

end Cert.Attention

end
-- ==== Proof.Scene.lean ====
/- One scene of the two attentions, as mathematics: eight heads of sixteen lanes over a table of position scores. The
   functions are over rows and lanes, and name no program. -/
module

public import proofs.«01_k».proof.Proof.Finite

@[expose] public section

noncomputable section

namespace Cert.Attention

open Idealize.ShloMosaic

/-- The head that lane `d` of the 128 belongs to. -/
def headOf (d : Fin 128) : Fin 8 := ⟨d.val / 16, by omega⟩

/-- Lane `e` of head `h`, among the 128. -/
def lane (h : Fin 8) (e : Fin 16) : Fin 128 := ⟨h.val * 16 + e.val, by omega⟩

/-- The reference's divisor of a score, four. -/
def four : EReal := Ideal.ofBits .f32 0x40800000#32

/-- The kernel's factor in the query's weights, one quarter. -/
def quarter : EReal := Ideal.ofBits .f32 0x3E800000#32

/-- Row `x` through the weights `W`. -/
def project {m n : ℕ} (x : Fin m → EReal) (W : Fin m → Fin n → EReal) (d : Fin n) : EReal := ∑ c, x c * W c d

/-- The score of row `k` against row `q` in head `h`, with the position score `p` added. -/
def score (q k : Fin 128 → EReal) (h : Fin 8) (p : EReal) : EReal :=
  Ideal.div (∑ e : Fin 16, q (lane h e) * k (lane h e)) four + p

/-- The largest of the scores `s`. -/
def top {n : ℕ} (s : Fin n → EReal) : EReal := Finset.univ.fold max ⊥ s

/-- Lane `d` of what the heads make of row `q` over the rows `k` with values `v` and position scores `p`. -/
def attend {n : ℕ} (q : Fin 128 → EReal) (k v : Fin n → Fin 128 → EReal) (p : Fin 8 → Fin n → EReal) (d : Fin 128) : EReal :=
  softmaxMean (top fun s => score q (k s) (headOf d) (p (headOf d) s)) (fun s => score q (k s) (headOf d) (p (headOf d) s))
    fun s => v s d

/-- The three parts of a row of 384 lanes: part `i` is lanes `128 i … 128 i + 127`. -/
def part (x : Fin 384 → EReal) (i : Fin 3) (d : Fin 128) : EReal := x ⟨i.val * 128 + d.val, by omega⟩

/-- What the cross attention makes of one scene, and its output weights. -/
def crossed (S : Fin 10 → Fin 128 → EReal) (T : Fin 320 → Fin 128 → EReal) (P : Fin 10 → Fin 8 → Fin 320 → EReal)
    (Wq Wk Wv Wp1 : Fin 128 → Fin 128 → EReal) (a : Fin 10) : Fin 128 → EReal :=
  project (attend (project (S a) Wq) (fun t => project (T t) Wk) (fun t => project (T t) Wv) (P a)) Wp1

/-- What the self attention makes of the rows `Y` of one scene, and its output weights. -/
def selfed (Y : Fin 10 → Fin 128 → EReal) (P : Fin 10 → Fin 8 → Fin 10 → EReal) (Wca : Fin 128 → Fin 384 → EReal)
    (Wp2 : Fin 128 → Fin 128 → EReal) (a : Fin 10) : Fin 128 → EReal :=
  project (attend (part (project (Y a) Wca) 0) (fun b => part (project (Y b) Wca) 1) (fun b => part (project (Y b) Wca) 2) (P a))
    Wp2

/-- The constant of the reference is the number four. -/
theorem four_eq : four = ((4 : ℝ) : EReal) := by
  simp [four, Ideal.ofBits, Ideal.ieee]; rw [← EReal.coe_mul]; norm_num

/-- The constant of the kernel is one quarter. -/
theorem quarter_eq : quarter = ((1 / 4 : ℝ) : EReal) := by
  simp [quarter, Ideal.ofBits, Ideal.ieee]; rw [← EReal.coe_mul]; norm_num

/-- A finite row through finite weights is finite. -/
theorem finite_project {m n : ℕ} {x : Fin m → EReal} {W : Fin m → Fin n → EReal} (hx : ∀ c, Finite (x c))
    (hW : ∀ c d, Finite (W c d)) (d : Fin n) : Finite (project x W d) := Finite.sum fun c => (hx c).mul (hW c d)

/-- A score of finite rows with a finite position score is finite. -/
theorem finite_score {q k : Fin 128 → EReal} {h : Fin 8} {p : EReal} (hq : ∀ d, Finite (q d)) (hk : ∀ d, Finite (k d))
    (hp : Finite p) : Finite (score q k h p) :=
  (div_four _ (Finite.sum fun e => (hq _).mul (hk _)) four_eq).add hp

/-- What the heads make of finite rows is finite. -/
theorem finite_attend {n : ℕ} {q : Fin 128 → EReal} {k v : Fin (n + 1) → Fin 128 → EReal} {p : Fin 8 → Fin (n + 1) → EReal}
    (hq : ∀ d, Finite (q d)) (hk : ∀ s d, Finite (k s d)) (hv : ∀ s d, Finite (v s d)) (hp : ∀ h s, Finite (p h s))
    (d : Fin 128) : Finite (attend q k v p d) :=
  finite_softmaxMean (Finite.fold_max fun s => finite_score hq (hk s) (hp _ s)) (fun s => finite_score hq (hk s) (hp _ s))
    fun s => hv s d

/-- Lanes of one head are lanes apart. -/
theorem lane_injective (h : Fin 8) : Function.Injective (lane h) := fun a b e => by
  have := congrArg Fin.val e
  simp only [lane] at this
  exact Fin.ext (by omega)

/-- A sum over the 128 lanes of terms that vanish off head `h` is the sum over its sixteen lanes. -/
theorem sum_head (h : Fin 8) (g : Fin 128 → EReal) (g0 : ∀ c, headOf c ≠ h → g c = 0) : ∑ c, g c = ∑ e, g (lane h e) :=
  sum_of_support (lane h) (lane_injective h) g fun c hc => g0 c fun e => hc ⟨⟨c.val % 16, by omega⟩, by
    subst e; apply Fin.ext; simp only [lane, headOf]; omega⟩

/-- The kernel's score, over all 128 lanes of the masked query with the quarter in the query's weights, is the score. -/
theorem masked_score {q : Fin 128 → EReal} {x : Fin 128 → EReal} {W : Fin 128 → Fin 128 → EReal} {k : Fin 128 → EReal} (h : Fin 8) (p : EReal)
    (hq : ∀ c, q c = project x (fun b d => W b d * quarter) c * (if headOf c = h then 1 else 0))
    (hx : ∀ c, Finite (x c)) (hW : ∀ c e, Finite (W c e)) (hk : ∀ e, Finite (k e)) :
    ∑ c, q c * k c + p = score (project x W) k h p := by
  unfold score
  congr 1
  rw [sum_head h _ fun c hc => by rw [hq, if_neg hc, mul_zero, zero_mul]]
  refine Eq.trans (Finset.sum_congr rfl fun e _ => ?_) (score_scale (x := x) (W := fun c e => W c (lane h e))
    (k := fun e => k (lane h e)) quarter_eq four_eq hx (fun c e => hW c _) fun e => hk _)
  have : headOf (lane h e) = h := Fin.ext (by simp only [headOf, lane]; omega)
  rw [hq, if_pos this, mul_one]; rfl

/-- The kernel's weighted mean, over any scores and values, is what the heads make of the rows. -/
theorem expMean_attend {n : ℕ} {q : Fin 128 → EReal} {k v : Fin (n + 1) → Fin 128 → EReal} {p : Fin 8 → Fin (n + 1) → EReal}
    (hq : ∀ d, Finite (q d)) (hk : ∀ s d, Finite (k s d)) (hv : ∀ s d, Finite (v s d)) (hp : ∀ h s, Finite (p h s))
    (d : Fin 128) :
    expMean (fun s => score q (k s) (headOf d) (p (headOf d) s)) (fun s => v s d) = attend q k v p d :=
  expMean_eq (Finite.fold_max fun s => finite_score hq (hk s) (hp _ s)) (fun s => finite_score hq (hk s) (hp _ s))
    fun s => hv s d

end Cert.Attention

end
-- ==== Proof.Heads.lean ====
/- The kernel's chain of operations for one scene of the cross attention, as one function of the scene's five blocks, and
   what it holds at an index. -/
module

public import proofs.«01_k».proof.Proof.Gen.KernelIdeal.Skeleton
public import proofs.«01_k».proof.Proof.Scene
public import Idealize.ShloMosaic.Lib.Pointwise

@[expose] public section

noncomputable section

namespace Cert.Attention

open Idealize.ShloMosaic Cert.KernelIdeal Cert.KernelIdeal.Gen

/-- The chain for one scene: query rows `q`, key rows `k`, value rows `v`, position scores `p` and head mask `h`. -/
def chain (q : FVec Ideal S80x128 .bf16) (k v : FVec Ideal S320x128 .bf16) (p : FVec Ideal S80x320 .f32)
    (h : FVec Ideal S80x128 .f32) : FVec Ideal S80x128 .bf16 :=
  have s : FVec Ideal S80x320 .f32 :=
    addf (matmul dot_S80x128_S320x128_S80x320_1_1_0_0_n_n none q k (constant S80x320 .f32 0x00000000#32)) p
  have z : FVec Ideal S80x1 .f32 :=
    shapeCast S80x1 (multiReduction .add [1] S80 (exp s) 0x00000000#32 reduces_S80x320_S80 (.inl rfl) rfl) shapeCasts_S80_S80x1
  have o : FVec Ideal S80x128 .f32 := matmul dot_S80x320_S320x128_S80x128_1_0_0_1_n_n none
    (truncf .bf16 (exp s) bitsLt_bf16_f32) v (constant S80x128 .f32 0x00000000#32)
  have r : FVec Ideal S80x1 .f32 := divf (broadcast S80x1 (Scalar.ofBits .f32 0x3F800000#32)) z
  truncf .bf16 (mulf (mulf o (broadcastTo S80x128 r broadcasts_S80x1_S80x128)) h) bitsLt_bf16_f32

/-- Row `r`, lane `d` of the chain: the weighted mean of the values, times the mask. -/
theorem chain_apply (q : FVec Ideal S80x128 .bf16) (k v : FVec Ideal S320x128 .bf16) (p : FVec Ideal S80x320 .f32)
    (h : FVec Ideal S80x128 .f32) (r : Fin 80) (d : Fin 128) :
    chain q k v p h (ix2 r d)
      = expMean (fun s : Fin 320 => (∑ c : Fin 128, q (ix2 r c) * k (ix2 s c)) + p (ix2 r s)) (fun s => v (ix2 s d))
        * h (ix2 r d) := by
  pointwise [chain, expMean]

end Cert.Attention

end
-- ==== Proof.Scenes.lean ====
/- The nine scenes of one block, each the one chain on its own rows, and the nine laid on one another. -/
module

public import proofs.«01_k».proof.Proof.Heads

@[expose] public section

noncomputable section

namespace Cert.Attention

open Idealize.ShloMosaic Cert.KernelIdeal Cert.KernelIdeal.Gen

/-- Row `r`, lane `d` of the cross attention of a block: the row of keys of its own scene, 320 to a scene, keys in the first
    128 lanes of `kv` and values in the rest. -/
def crossRow (q : FVec Ideal S720x128 .bf16) (kv : FVec Ideal S2880x256 .bf16) (p : FVec Ideal S720x320 .f32)
    (h : FVec Ideal S720x128 .f32) (r : Fin 720) (d : Fin 128) : EReal :=
  expMean (fun s : Fin 320 => (∑ c : Fin 128, q (ix2 r c)
        * kv (ix2 (⟨320 * (r.val / 80) + s.val, by omega⟩ : Fin 2880) (⟨c.val, by omega⟩ : Fin 256))) + p (ix2 r s))
      (fun s => kv (ix2 (⟨320 * (r.val / 80) + s.val, by omega⟩ : Fin 2880) (⟨128 + d.val, by omega⟩ : Fin 256)))
    * h (ix2 r d)

/-- Every scene's rows lie in the array that holds nine of them. -/
theorem rows_slices {R C n c o : ℕ} (b : Fin 9) (hR : R = n * 9) (hc : o + c ≤ C) :
    Shape.Slices ⟨2, ![R, C]⟩ ![n * b.val, o] ⟨2, ![n, c]⟩ := by
  subst hR
  refine ⟨rfl, fun a => ?_⟩
  have := b.isLt
  match a with
  | ⟨0, _⟩ => show n * b.val + n ≤ n * 9; nlinarith
  | ⟨1, _⟩ => exact hc

/-- The chain on the rows of scene `b` is the block's cross attention on those rows. -/
theorem chain_rows (q : FVec Ideal S720x128 .bf16) (kv : FVec Ideal S2880x256 .bf16) (p : FVec Ideal S720x320 .f32)
    (h : FVec Ideal S720x128 .f32) (b : Fin 9) (o₁ : S720x128.Slices ![80 * b.val, 0] S80x128)
    (o₂ : S2880x256.Slices ![320 * b.val, 0] S320x128) (o₃ : S2880x256.Slices ![320 * b.val, 128] S320x128)
    (o₄ : S720x320.Slices ![80 * b.val, 0] S80x320) (r : Fin 80) (d : Fin 128) :
    chain (extractStridedSlice S80x128 ![80 * b.val, 0] q o₁) (extractStridedSlice S320x128 ![320 * b.val, 0] kv o₂)
        (extractStridedSlice S320x128 ![320 * b.val, 128] kv o₃) (extractStridedSlice S80x320 ![80 * b.val, 0] p o₄)
        (extractStridedSlice S80x128 ![80 * b.val, 0] h o₁) (ix2 r d)
      = crossRow q kv p h ⟨80 * b.val + r.val, by omega⟩ d := by
  rw [chain_apply]
  unfold crossRow
  pointwise []
  have e : (80 * b.val + r.val) / 80 = b.val := by omega
  simp only [e]

/-- Scene `b`'s rows of the four blocks through the chain. -/
def scene (h : FVec Ideal S720x128 .f32) (q : FVec Ideal S720x128 .bf16) (kv : FVec Ideal S2880x256 .bf16)
    (p : FVec Ideal S720x320 .f32) (b : Fin 9) : FVec Ideal S80x128 .bf16 :=
  chain (extractStridedSlice S80x128 ![80 * b.val, 0] q (rows_slices b (by decide) (by decide)))
    (extractStridedSlice S320x128 ![320 * b.val, 0] kv (rows_slices b (by decide) (by decide)))
    (extractStridedSlice S320x128 ![320 * b.val, 128] kv (rows_slices b (by decide) (by decide)))
    (extractStridedSlice S80x320 ![80 * b.val, 0] p (rows_slices b (by decide) (by decide)))
    (extractStridedSlice S80x128 ![80 * b.val, 0] h (rows_slices b (by decide) (by decide)))

/-- Nine scenes' rows laid on one another. -/
def laid (f : Fin 9 → FVec Ideal S80x128 .bf16) : FVec Ideal S720x128 .bf16 :=
  concatenate S720x128 0 [⟨S80x128, f 0⟩, ⟨S80x128, f 1⟩, ⟨S80x128, f 2⟩, ⟨S80x128, f 3⟩, ⟨S80x128, f 4⟩, ⟨S80x128, f 5⟩,
      ⟨S80x128, f 6⟩, ⟨S80x128, f 7⟩, ⟨S80x128, f 8⟩]
    concatenates_S80x128_S80x128_S80x128_S80x128_S80x128_S80x128_S80x128_S80x128_S80x128_S720x128_d0

/-- Row `r` of the laid rows is row `r % 80` of scene `r / 80`. -/
theorem laid_apply (f : Fin 9 → FVec Ideal S80x128 .bf16) (r : Fin 720) (d : Fin 128) :
    laid f (ix2 r d) = f ⟨r.val / 80, by omega⟩ (ix2 ⟨r.val % 80, by omega⟩ d) := by
  pointwise [laid]
  repeat' split
  all_goals refine congrArg₂ (fun b i => f b (ix2 i d)) (Fin.ext ?_) (Fin.ext ?_)
  all_goals simp only [Fin.isValue, Fin.val_zero, Fin.val_one, Fin.val_two, Fin.coe_ofNat_eq_mod, Nat.reduceMod]
  all_goals omega

/-- The nine scenes laid on one another are the block's cross attention. -/
theorem laid_scene (h : FVec Ideal S720x128 .f32) (q : FVec Ideal S720x128 .bf16) (kv : FVec Ideal S2880x256 .bf16)
    (p : FVec Ideal S720x320 .f32) (r : Fin 720) (d : Fin 128) :
    laid (scene h q kv p) (ix2 r d) = crossRow q kv p h r d := by
  rw [laid_apply, scene, chain_rows]
  exact congrArg (fun r => crossRow q kv p h r d) (Fin.ext (by simp only; omega))

/-- What follows the cross attention: rows of one agent added, the output weights, the weights of the three parts. -/
def after (e : FVec Ideal S90x720 .bf16) (o : FVec Ideal S720x128 .bf16) (W : FVec Ideal S128x128 .bf16)
    (W' : FVec Ideal S128x384 .bf16) : FVec Ideal S90x384 .bf16 :=
  have a : FVec Ideal S90x128 .f32 :=
    matmul dot_S90x720_S720x128_S90x128_1_0_0_1_n_n none e o (constant S90x128 .f32 0x00000000#32)
  have b : FVec Ideal S90x128 .f32 := matmul dot_S90x128_S128x128_S90x128_1_0_0_1_n_n none (truncf .bf16 a bitsLt_bf16_f32)
    (shapeCast S128x128 W shapeCasts_S128x128_S128x128) (constant S90x128 .f32 0x00000000#32)
  truncf .bf16 (matmul dot_S90x128_S128x384_S90x384_1_0_0_1_n_n none (truncf .bf16 b bitsLt_bf16_f32)
    (shapeCast S128x384 W' shapeCasts_S128x384_S128x384) (constant S90x384 .f32 0x00000000#32)) bitsLt_bf16_f32

/-- Row `n`, lane `c` of what follows the cross attention. -/
theorem after_apply (e : FVec Ideal S90x720 .bf16) (o : FVec Ideal S720x128 .bf16) (W : FVec Ideal S128x128 .bf16)
    (W' : FVec Ideal S128x384 .bf16) (n : Fin 90) (c : Fin 384) :
    after e o W W' (ix2 n c)
      = project (project (fun d => ∑ r : Fin 720, e (ix2 n r) * o (ix2 r d)) fun i j => W (ix2 i j)) (fun i j => W' (ix2 i j)) c := by
  pointwise [after, project]

/-- The kernel's payload up to the second attention is what follows the nine scenes. -/
theorem pay33_eq (h : FVec Ideal S720x128 .f32) (q : FVec Ideal S720x128 .bf16) (kv : FVec Ideal S2880x256 .bf16)
    (t : FVec Ideal S9x10x8x32 .f32) (w : IVec S9x10x320 32) (e : FVec Ideal S90x720 .bf16) (W : FVec Ideal S128x128 .bf16)
    (W' : FVec Ideal S128x384 .bf16) :
    k0_pay33 e (k0_pay14 (k0_pay11 kv) (k0_pay12 h) (k0_pay13 q kv t w)) (k0_pay15 h q kv (k0_pay10 t w))
        (k0_pay16 h q kv (k0_pay10 t w)) (k0_pay21 h (k0_pay17 q) (k0_pay18 kv) (k0_pay19 kv) (k0_pay20 (k0_pay10 t w)))
        (k0_pay22 h q kv (k0_pay10 t w)) (k0_pay25 (k0_pay23 h) (k0_pay24 q kv (k0_pay10 t w)))
        (k0_pay26 h q kv (k0_pay10 t w)) (k0_pay27 h q kv (k0_pay10 t w)) (k0_pay28 kv) (k0_pay29 h)
        (k0_pay30 q kv (k0_pay10 t w)) (k0_pay31 q kv (k0_pay10 t w)) k0_pay32 W W'
      = after e (laid (scene h q kv (k0_pay10 t w))) W W' := rfl

end Cert.Attention

end
-- ==== Proof.Tables.lean ====
/- The kernel's position tables read at an index: a table of one row's entries, gathered lane by lane by the words of the
   relations. -/
module

public import proofs.«01_k».proof.Proof.Heads
public import Idealize.ShloMosaic.Lib.Routing.OpsPair

@[expose] public section

noncomputable section

namespace Cert.Attention

open Idealize.ShloMosaic Idealize.ShloMosaic.Routing Cert.KernelIdeal Cert.KernelIdeal.Gen

/-- A table's entries, each row's own, at a table of words of its lanes. -/
def fetch (t : FVec Ideal S720x128 .f32) (w z : IVec S720x128 32) : FVec Ideal S720x128 .f32 :=
  have u : IVec S720x128 32 := select (cmpi .slt w z) (addi w (broadcast S720x128 128#32)) w
  dynamicGather 1 t (shapeCast S720x128 (shapeCast S720x128x1 u shapeCasts_S720x128_S720x128x1) shapeCasts_S720x128x1_S720x128)

/-- Where the word is a lane's number, the entry fetched is that lane's. -/
theorem fetch_apply (t : FVec Ideal S720x128 .f32) (w z : IVec S720x128 32) (r : Fin 720) (l k : Fin 128)
    (hz : z (ix2 r l) = 0#32) (h : (w (ix2 r l)).toNat = k.val) : fetch t w z (ix2 r l) = t (ix2 r k) := by
  have hw : Scalar.select (IntOp.cmpi .slt (w (ix2 r l)) (z (ix2 r l))) (IntOp.addi (w (ix2 r l)) 128#32) (w (ix2 r l)) = w (ix2 r l) :=
    hz ▸ wrap_of_lt _ _ (by omega)
  pointwise [fetch]
  exact congrArg (fun k => t (ix2 r k)) (Fin.ext (by simp only [hw, h]; omega))

/-- A row's entries of the map's table: 32 of its own, the rest zero. -/
def crossEntries (x : FVec Ideal S9x10x8x32 .f32) : FVec Ideal S720x128 .f32 :=
  concatenate S720x128 1 [⟨S720x32, shapeCast S720x32 x shapeCasts_S9x10x8x32_S720x32⟩,
    ⟨S720x96, broadcast S720x96 (Scalar.ofBits .f32 0x00000000#32)⟩] concatenates_S720x32_S720x96_S720x128_d1

/-- Entry `k` of row `r`, of its own scene, agent and head. -/
theorem crossEntries_apply (x : Vec Ideal S9x10x32x8 .f32) (r : Fin 720) (k : Fin 32) :
    crossEntries (k0_pay9 x) (ix2 r ⟨k.val, by omega⟩)
      = x (ix4 (⟨r.val / 80, by omega⟩ : Fin 9) (⟨r.val / 8 % 10, by omega⟩ : Fin 10) k (⟨r.val % 8, by omega⟩ : Fin 8)) := by
  pointwise [crossEntries, k0_pay9]

/-- A row's words over the map's tokens: 320 of its own scene and agent, the rest zero. -/
def crossWords (w : IVec S9x10x320 32) : IVec S720x384 32 :=
  have u : IVec S9x10x8x320 32 := broadcastTo S9x10x8x320 (shapeCast S9x10x1x320 (shapeCast S9x10x1x320 w
    shapeCasts_S9x10x320_S9x10x1x320) shapeCasts_S9x10x1x320_S9x10x1x320) broadcasts_S9x10x1x320_S9x10x8x320
  concatenate S720x384 1 [⟨S720x320, shapeCast S720x320 u shapeCasts_S9x10x8x320_S720x320⟩,
    ⟨S720x64, broadcast S720x64 0#32⟩] concatenates_S720x320_S720x64_S720x384_d1

/-- Word `s` of row `r`. -/
theorem crossWords_apply (w : IVec S9x10x320 32) (r : Fin 720) (s : Fin 320) :
    crossWords w (ix2 r ⟨s.val, by omega⟩)
      = w (ix3 (⟨r.val / 80, by omega⟩ : Fin 9) (⟨r.val / 8 % 10, by omega⟩ : Fin 10) s) := by
  pointwise [crossWords]

/-- Three tables of 128 lanes side by side, the first 320 lanes kept. -/
def abreast (a b c : FVec Ideal S720x128 .f32) : FVec Ideal S720x320 .f32 :=
  extractStridedSlice S720x320 ![0, 0] (concatenate S720x384 1 [⟨S720x128, a⟩, ⟨S720x128, b⟩, ⟨S720x128, c⟩]
    concatenates_S720x128_S720x128_S720x128_S720x384_d1) slices_S720x384_o0_0_S720x320

/-- Where each of the three holds, at a lane of its own, `f` at that lane of the 384, the three abreast hold `f`. -/
theorem abreast_apply (a b c : FVec Ideal S720x128 .f32) (r : Fin 720) (s : Fin 320) (x : EReal)
    (ha : ∀ l : Fin 128, s.val = l.val → a (ix2 r l) = x) (hb : ∀ l : Fin 128, s.val = 128 + l.val → b (ix2 r l) = x)
    (hc : ∀ l : Fin 128, s.val = 256 + l.val → c (ix2 r l) = x) : abreast a b c (ix2 r s) = x := by
  pointwise [abreast]
  split
  · exact ha _ rfl
  split
  · exact hb _ (by simp only; omega)
  · exact hc _ (by simp only; omega)

/-- The kernel's map table is three tables fetched abreast. -/
theorem pay10_eq (x : FVec Ideal S9x10x8x32 .f32) (w : IVec S9x10x320 32) :
    k0_pay10 x w = abreast
      (fetch (crossEntries x) (extractStridedSlice S720x128 ![0, 0] (crossWords w) slices_S720x384_o0_0_S720x128)
        (broadcast S720x128 0#32))
      (fetch (crossEntries x) (extractStridedSlice S720x128 ![0, 128] (crossWords w) slices_S720x384_o0_128_S720x128)
        (broadcast S720x128 0#32))
      (fetch (crossEntries x) (extractStridedSlice S720x128 ![0, 256] (crossWords w) slices_S720x384_o0_256_S720x128)
        (broadcast S720x128 0#32)) := rfl

/-- The position score of token `s` at row `r`: the entry that the word of the row's scene, agent and token names. -/
theorem cross_table (x : Vec Ideal S9x10x32x8 .f32) (w : IVec S9x10x320 32) (r : Fin 720) (s : Fin 320) (k : Fin 32)
    (h : (w (ix3 (⟨r.val / 80, by omega⟩ : Fin 9) (⟨r.val / 8 % 10, by omega⟩ : Fin 10) s)).toNat = k.val) :
    k0_pay10 (k0_pay9 x) w (ix2 r s)
      = x (ix4 (⟨r.val / 80, by omega⟩ : Fin 9) (⟨r.val / 8 % 10, by omega⟩ : Fin 10) k (⟨r.val % 8, by omega⟩ : Fin 8)) := by
  rw [pay10_eq, ← crossEntries_apply x r k]
  rw [← crossWords_apply w r s] at h
  refine abreast_apply _ _ _ r s _ (fun l e => ?_) (fun l e => ?_) fun l e => ?_
  all_goals
    refine fetch_apply _ _ _ r l ⟨k.val, by omega⟩ rfl (Eq.trans (congrArg BitVec.toNat ?_) h)
    pointwise []
    exact congrArg (fun l => crossWords w (ix2 r l)) (Fin.ext (by simp only; omega))

/-- Entry `k` of row `r` of the agents' table, of its own scene, agent and head. -/
theorem pay37_apply (x : Vec Ideal S9x10x3x8 .f32) (r : Fin 720) (k : Fin 3) :
    k0_pay37 x (ix2 r ⟨k.val, by omega⟩)
      = x (ix4 (⟨r.val / 80, by omega⟩ : Fin 9) (⟨r.val / 8 % 10, by omega⟩ : Fin 10) k (⟨r.val % 8, by omega⟩ : Fin 8)) := by
  pointwise [k0_pay37]

/-- Word `n` of row `r` of the agents' words: the word of agent `n % 10`. -/
theorem pay38_apply (w : Vec Ideal S9x10x10 .i32) (r : Fin 720) (n : Fin 90) :
    k0_pay38 (F := Ideal) w (ix2 r ⟨n.val, by omega⟩)
      = w (ix3 (⟨r.val / 80, by omega⟩ : Fin 9) (⟨r.val / 8 % 10, by omega⟩ : Fin 10) (⟨n.val % 10, by omega⟩ : Fin 10)) := by
  pointwise [k0_pay38]

/-- The position score of column `n` at row `r`: the entry that the word of the row's scene, agent and column names. -/
theorem self_table (x : Vec Ideal S9x10x3x8 .f32) (w : Vec Ideal S9x10x10 .i32) (r : Fin 720) (n : Fin 90) (k : Fin 3)
    (h : (w (ix3 (⟨r.val / 80, by omega⟩ : Fin 9) (⟨r.val / 8 % 10, by omega⟩ : Fin 10)
      (⟨n.val % 10, by omega⟩ : Fin 10))).toNat = k.val) :
    fetch (k0_pay37 x) (k0_pay38 (F := Ideal) w) k0_pay39 (ix2 r ⟨n.val, by omega⟩)
      = x (ix4 (⟨r.val / 80, by omega⟩ : Fin 9) (⟨r.val / 8 % 10, by omega⟩ : Fin 10) k (⟨r.val % 8, by omega⟩ : Fin 8)) := by
  rw [← pay37_apply x r k]
  rw [← pay38_apply w r n] at h
  exact fetch_apply _ _ _ r _ ⟨k.val, by omega⟩ rfl h

end Cert.Attention

end
-- ==== Proof.Late.lean ====
/- The kernel's payloads around the scenes, read at an index: the queries of a block, its keys and values, and the second
   attention with the last weights. -/
module

public import proofs.«01_k».proof.Proof.Scenes
public import proofs.«01_k».proof.Proof.Tables

@[expose] public section

noncomputable section

namespace Cert.Attention

open Idealize.ShloMosaic Cert.KernelIdeal Cert.KernelIdeal.Gen

/-- The queries of a block at row `r`, lane `c`: the rows of one agent picked by `e`, under the mask `h`. -/
theorem pay7_apply (h : Vec Ideal S720x128 .bf16) (e : Vec Ideal S720x90 .bf16) (x : Vec Ideal S1x1x90x128 .f32)
    (W : Vec Ideal S128x128 .bf16) (r : Fin 720) (c : Fin 128) :
    k0_pay7 h e x W (ix2 r c)
      = (∑ n : Fin 90, e (ix2 r n) * project (fun d => x (ix4 (0 : Fin 1) (0 : Fin 1) n d)) (fun i j => W (ix2 i j)) c)
        * h (ix2 r c) := by
  pointwise [k0_pay7, k0_pay4, k0_pay2, project]

/-- The keys and values of a block at row `t`, lane `c`. -/
theorem pay8_apply (x : Vec Ideal S1x32x90x128 .f32) (W : Vec Ideal S128x256 .bf16) (t : Fin 2880) (c : Fin 256) :
    k0_pay8 x W (ix2 t c)
      = project (fun d => x (ix4 (0 : Fin 1) (⟨t.val / 90, by omega⟩ : Fin 32) (⟨t.val % 90, by omega⟩ : Fin 90) d))
        (fun i j => W (ix2 i j)) c := by
  pointwise [k0_pay8, project]

/-- The queries of the second attention out of the rows `y` of three parts. -/
def lateQueries (h : FVec Ideal S720x128 .bf16) (e : FVec Ideal S720x90 .bf16) (y : FVec Ideal S90x384 .bf16) :
    FVec Ideal S720x128 .bf16 :=
  mulf (truncf .bf16 (matmul dot_S720x90_S90x128_S720x128_1_0_0_1_n_n none e
    (extractStridedSlice S90x128 ![0, 0] y slices_S90x384_o0_0_S90x128) (constant S720x128 .f32 0x00000000#32)) bitsLt_bf16_f32) h

/-- They at row `r`, lane `c`. -/
theorem lateQueries_apply (h : FVec Ideal S720x128 .bf16) (e : FVec Ideal S720x90 .bf16) (y : FVec Ideal S90x384 .bf16)
    (r : Fin 720) (c : Fin 128) :
    lateQueries h e y (ix2 r c) = (∑ n : Fin 90, e (ix2 r n) * y (ix2 n ⟨c.val, by omega⟩)) * h (ix2 r c) := by
  pointwise [lateQueries]

/-- The rows of one part of three. -/
def lateRows (o : ℕ) (y : FVec Ideal S90x384 .bf16) (hs : S90x384.Slices ![0, o] S90x128) : FVec Ideal S90x128 .bf16 :=
  extractStridedSlice S90x128 ![0, o] y hs

/-- The second attention at row `r`, lane `d`, its mean of the values `v` under the mask `h`. -/
def lateRow (h : FVec Ideal S720x128 .f32) (b : FVec Ideal S720x90 .f32) (q : FVec Ideal S720x128 .bf16)
    (k v : FVec Ideal S90x128 .bf16) (p : FVec Ideal S720x128 .f32) (r : Fin 720) (d : Fin 128) : EReal :=
  expMean (fun n : Fin 90 => (∑ c : Fin 128, q (ix2 r c) * k (ix2 n c)) + p (ix2 r (⟨n.val, by omega⟩ : Fin 128)) + b (ix2 r n))
      (fun n => v (ix2 n d)) * h (ix2 r d)

/-- The second attention and the last weights, from its queries, keys, values and position scores. -/
def late (h : FVec Ideal S720x128 .f32) (e : FVec Ideal S90x720 .bf16) (b : FVec Ideal S720x90 .f32) (q : FVec Ideal S720x128 .bf16)
    (k v : FVec Ideal S90x128 .bf16) (p : FVec Ideal S720x128 .f32) (W : FVec Ideal S128x128 .bf16) : FVec Ideal S9x10x128 .f32 :=
  have s : FVec Ideal S720x90 .f32 := addf (addf
    (matmul dot_S720x128_S90x128_S720x90_1_1_0_0_n_n none q k (constant S720x90 .f32 0x00000000#32))
    (extractStridedSlice S720x90 ![0, 0] p slices_S720x128_o0_0_S720x90)) b
  have z : FVec Ideal S720x1 .f32 := shapeCast S720x1
    (multiReduction .add [1] S720 (exp s) 0x00000000#32 reduces_S720x90_S720 (.inl rfl) rfl) shapeCasts_S720_S720x1
  have o : FVec Ideal S720x128 .f32 := matmul dot_S720x90_S90x128_S720x128_1_0_0_1_n_n none
    (truncf .bf16 (exp s) bitsLt_bf16_f32) v (constant S720x128 .f32 0x00000000#32)
  have r : FVec Ideal S720x1 .f32 := divf (broadcast S720x1 (Scalar.ofBits .f32 0x3F800000#32)) z
  have m : FVec Ideal S720x128 .bf16 :=
    truncf .bf16 (mulf (mulf o (broadcastTo S720x128 r broadcasts_S720x1_S720x128)) h) bitsLt_bf16_f32
  have a : FVec Ideal S90x128 .f32 :=
    matmul dot_S90x720_S720x128_S90x128_1_0_0_1_n_n none e m (constant S90x128 .f32 0x00000000#32)
  shapeCast S9x10x128 (matmul dot_S90x128_S128x128_S90x128_1_0_0_1_n_n none (truncf .bf16 a bitsLt_bf16_f32)
    (shapeCast S128x128 W shapeCasts_S128x128_S128x128) (constant S90x128 .f32 0x00000000#32)) shapeCasts_S90x128_S9x10x128

/-- It at scene `b`, agent `a`, lane `d`. -/
theorem late_apply (h : FVec Ideal S720x128 .f32) (e : FVec Ideal S90x720 .bf16) (b : FVec Ideal S720x90 .f32)
    (q : FVec Ideal S720x128 .bf16) (k v : FVec Ideal S90x128 .bf16) (p : FVec Ideal S720x128 .f32)
    (W : FVec Ideal S128x128 .bf16) (i : Fin 9) (a : Fin 10) (d : Fin 128) :
    late h e b q k v p W (ix3 i a d)
      = project (fun d => ∑ r : Fin 720, e (ix2 (⟨i.val * 10 + a.val, by omega⟩ : Fin 90) r) * lateRow h b q k v p r d)
        (fun i j => W (ix2 i j)) d := by
  pointwise [late, lateRow, project, expMean]

/-- The number that the host writes between the scenes. -/
def maskWord : EReal := FloatOps.ofBits (F := Ideal) .f32 0xF149F2CA#32

/-- It is negative. -/
theorem maskWord_neg : maskWord < 0 := by
  have e : maskWord = ((-1000000015047466219876688855040 : ℝ) : EReal) := by
    simp [maskWord, FloatOps.ofBits, Ideal.ofBits, Ideal.ieee]
    rw [← EReal.coe_pow, ← EReal.coe_mul]
    norm_num
  rw [e]
  exact_mod_cast (by norm_num : (-1000000015047466219876688855040 : ℝ) < 0)

/-- The mask between the scenes with its negative entries named. -/
def named (b : FVec Ideal S720x90 .f32) : FVec Ideal S720x90 .f32 :=
  select (cmpf .olt b (broadcast S720x90 (Scalar.ofBits .f32 0x00000000#32)))
    (broadcast S720x90 (Named.named κ "mask" 0xF149F2CA#32)) b

/-- It is zero where the mask is and minus infinity where the mask is the host's number. -/
theorem named_apply {b : FVec Ideal S720x90 .f32} {p : Prop} [Decidable p] {r : Fin 720} {n : Fin 90}
    (hb : b (ix2 r n) = if p then (0 : EReal) else maskWord) : named b (ix2 r n) = if p then (0 : EReal) else ⊥ := by
  pointwise [named]
  rw [hb]
  split
  · rw [if_neg (lt_irrefl _)]
  · rw [if_pos maskWord_neg]
    rfl

/-- The kernel's last payload is the second attention over the agents' table as fetched. -/
theorem pay1_eq (h : FVec Ideal S720x128 .f32) (e : FVec Ideal S90x720 .bf16) (b : FVec Ideal S720x90 .f32)
    (q : FVec Ideal S720x128 .bf16) (k v : FVec Ideal S90x128 .bf16) (t : FVec Ideal S720x128 .f32) (w z : IVec S720x128 32)
    (W : FVec Ideal S128x128 .bf16) :
    k0_pay1 h e b q k v t w z W = late h e (named b) q k v (fetch t w z) W := rfl

end Cert.Attention

end
-- ==== Proof.Rows.lean ====
/- The rows of a block: nine scenes of ten agents, and under each agent its eight heads. The sums that the kernel's masks of
   zeros and ones leave. -/
module

public import proofs.«01_k».proof.Proof.Scene

@[expose] public section

noncomputable section

namespace Cert.Attention

open Idealize.ShloMosaic

/-- Agent `a` of scene `i` among the block's ninety. -/
def agent (i : Fin 9) (a : Fin 10) : Fin 90 := ⟨i.val * 10 + a.val, by omega⟩

/-- Head `h` of agent `a` of scene `i` among the block's 720 rows. -/
def row (i : Fin 9) (a : Fin 10) (h : Fin 8) : Fin 720 := ⟨(i.val * 10 + a.val) * 8 + h.val, by omega⟩

/-- The agent that row `r` belongs to. -/
def rowAgent (r : Fin 720) : Fin 90 := ⟨r.val / 8, by omega⟩

/-- The head that row `r` belongs to. -/
def rowHead (r : Fin 720) : Fin 8 := ⟨r.val % 8, by omega⟩

/-- A row's agent. -/
theorem rowAgent_row (i : Fin 9) (a : Fin 10) (h : Fin 8) : rowAgent (row i a h) = agent i a :=
  Fin.ext (by simp only [rowAgent, row, agent]; omega)

/-- A row's head. -/
theorem rowHead_row (i : Fin 9) (a : Fin 10) (h : Fin 8) : rowHead (row i a h) = h :=
  Fin.ext (by simp only [rowHead, row]; omega)

/-- Every row is a head of an agent of a scene. -/
theorem eq_row (r : Fin 720) : ∃ i a h, r = row i a h :=
  ⟨⟨r.val / 80, by omega⟩, ⟨r.val / 8 % 10, by omega⟩, ⟨r.val % 8, by omega⟩, Fin.ext (by simp only [row]; omega)⟩

/-- A sum over the agents, each under the mask of row `r`'s own, is the term of that agent. -/
theorem sum_agent (f : Fin 90 → EReal) (r : Fin 720) :
    ∑ n : Fin 90, (if rowAgent r = n then (1 : EReal) else 0) * f n = f (rowAgent r) := by
  simp only [ite_mul, one_mul, zero_mul]
  exact (Finset.sum_ite_eq _ _ _).trans (if_pos (Finset.mem_univ _))

/-- A sum over the rows, under the masks of one agent and of one head, is the term of that agent's head. -/
theorem sum_row (g : Fin 720 → EReal) (i : Fin 9) (a : Fin 10) (h : Fin 8) :
    ∑ r : Fin 720, (if rowAgent r = agent i a then (1 : EReal) else 0) * (g r * (if h = rowHead r then (1 : EReal) else 0))
      = g (row i a h) := by
  rw [Finset.sum_eq_single (row i a h), if_pos (rowAgent_row i a h), if_pos (rowHead_row i a h).symm, one_mul, mul_one]
  · intro r _ hr
    by_cases h₁ : rowAgent r = agent i a
    · rw [if_pos h₁, if_neg, mul_zero, mul_zero]
      intro h₂
      refine hr (Fin.ext ?_)
      have := congrArg Fin.val h₁
      have := congrArg Fin.val h₂
      simp only [rowAgent, agent, rowHead, row] at *
      omega
    · rw [if_neg h₁, zero_mul]
  · exact fun hn => absurd (Finset.mem_univ _) hn

/-- Agents of one scene are apart. -/
theorem agent_injective (i : Fin 9) : Function.Injective (agent i) := fun a b e => by
  have := congrArg Fin.val e
  simp only [agent] at this
  exact Fin.ext (by omega)

/-- The weighted mean over the ninety agents, the scores of other scenes at minus infinity, is the mean over the scene's own. -/
theorem expMean_scene (i : Fin 9) (s v : Fin 90 → EReal) :
    expMean (fun n => s n + (if i.val = n.val / 10 then (0 : EReal) else ⊥)) v
      = expMean (fun a => s (agent i a)) fun a => v (agent i a) := by
  have own (a : Fin 10) : s (agent i a) + (if i.val = (agent i a).val / 10 then (0 : EReal) else ⊥) = s (agent i a) := by
    rw [if_pos (by simp only [agent]; omega), add_zero]
  have off (n : Fin 90) (hn : n ∉ Set.range (agent i)) :
      Ideal.exp (s n + (if i.val = n.val / 10 then (0 : EReal) else ⊥)) = 0 := by
    rw [if_neg, EReal.add_bot, Ideal.exp_bot]
    exact fun e => hn ⟨⟨n.val % 10, by omega⟩, Fin.ext (by simp only [agent]; omega)⟩
  unfold expMean
  rw [sum_of_support (agent i) (agent_injective i) _ fun n hn => by rw [off n hn, zero_mul],
    sum_of_support (agent i) (agent_injective i) _ off]
  simp only [own]

end Cert.Attention

end
-- ==== Proof.Block.lean ====
/- What one grid point computes: nine scenes through both attentions, each scene's rows out of its own rows alone. -/
module

public import proofs.«01_k».proof.Proof.Late
public import proofs.«01_k».proof.Proof.Rows

@[expose] public section

noncomputable section

namespace Cert.Attention

open Idealize.ShloMosaic Cert.KernelIdeal Cert.KernelIdeal.Gen

/-- The kernel's masks hold what they should: the lanes of a row's head, a row's agent, and the agents of a row's scene. -/
structure Masks (x6 : Vec Ideal S720x128 .bf16) (x7 : Vec Ideal S720x128 .f32) (x8 : Vec Ideal S720x90 .bf16)
    (x9 : Vec Ideal S90x720 .bf16) (x10 : Vec Ideal S720x90 .f32) : Prop where
  heads (r : Fin 720) (c : Fin 128) : x6 (ix2 r c) = if headOf c = rowHead r then (1 : EReal) else 0
  heads' (r : Fin 720) (c : Fin 128) : x7 (ix2 r c) = if headOf c = rowHead r then (1 : EReal) else 0
  agents (r : Fin 720) (n : Fin 90) : x8 (ix2 r n) = if rowAgent r = n then (1 : EReal) else 0
  agents' (r : Fin 720) (n : Fin 90) : x9 (ix2 n r) = if rowAgent r = n then (1 : EReal) else 0
  scenes (r : Fin 720) (n : Fin 90) : x10 (ix2 r n) = if r.val / 80 = n.val / 10 then (0 : EReal) else maskWord

/-- The weights as the kernel takes them: a quarter in the queries', keys' and values' side by side. -/
structure Weights (Wq Wk Wv : Fin 128 → Fin 128 → EReal) (Wca : Fin 128 → Fin 384 → EReal) (x11 : Vec Ideal S128x128 .bf16)
    (x12 : Vec Ideal S128x256 .bf16) (x14 : Vec Ideal S128x384 .bf16) : Prop where
  queries (b c : Fin 128) : x11 (ix2 b c) = Wq b c * quarter
  keys (b c : Fin 128) : x12 (ix2 b ⟨c.val, by omega⟩) = Wk b c
  values (b c : Fin 128) : x12 (ix2 b ⟨128 + c.val, by omega⟩) = Wv b c
  late (b c : Fin 128) : x14 (ix2 b ⟨c.val, by omega⟩) = Wca b ⟨c.val, by omega⟩ * quarter
  lateKeys (b c : Fin 128) : x14 (ix2 b ⟨128 + c.val, by omega⟩) = Wca b ⟨128 + c.val, by omega⟩
  lateValues (b c : Fin 128) : x14 (ix2 b ⟨256 + c.val, by omega⟩) = Wca b ⟨256 + c.val, by omega⟩

/-- Lane `d` of what the cross attention of a block makes of head `h` of agent `a` of scene `i`: the attention of the agent's
    row over the scene's, on the head's own lanes, and zero on the others. -/
theorem crossRow_row {q : FVec Ideal S720x128 .bf16} {kv : FVec Ideal S2880x256 .bf16} {p : FVec Ideal S720x320 .f32}
    {m : FVec Ideal S720x128 .f32} {i : Fin 9} {a : Fin 10} {h : Fin 8} {x : Fin 128 → EReal} {Wq : Fin 128 → Fin 128 → EReal}
    {k v : Fin 320 → Fin 128 → EReal} {P : Fin 8 → Fin 320 → EReal}
    (hq : ∀ c, q (ix2 (row i a h) c) = project x (fun b d => Wq b d * quarter) c * (if headOf c = h then 1 else 0))
    (hkey : ∀ (s : Fin 320) (c : Fin 128), kv (ix2 (⟨320 * i.val + s.val, by omega⟩ : Fin 2880) (⟨c.val, by omega⟩ : Fin 256)) = k s c)
    (hval : ∀ (s : Fin 320) (c : Fin 128), kv (ix2 (⟨320 * i.val + s.val, by omega⟩ : Fin 2880) (⟨128 + c.val, by omega⟩ : Fin 256)) = v s c)
    (hp : ∀ s, p (ix2 (row i a h) s) = P h s)
    (hm : ∀ c, m (ix2 (row i a h) c) = if headOf c = h then (1 : EReal) else 0)
    (fx : ∀ c, Finite (x c)) (fW : ∀ c d, Finite (Wq c d)) (fk : ∀ s d, Finite (k s d)) (fv : ∀ s d, Finite (v s d))
    (fP : ∀ h s, Finite (P h s)) (d : Fin 128) :
    crossRow q kv p m (row i a h) d = attend (project x Wq) k v P d * (if headOf d = h then (1 : EReal) else 0) := by
  unfold crossRow
  rw [hm]
  by_cases e : headOf d = h
  swap
  · rw [if_neg e, mul_zero, mul_zero]
  congr 1
  rw [← expMean_attend (fun d => finite_project fx fW d) fk fv fP d, e]
  have ei : (row i a h).val / 80 = i.val := by simp only [row]; omega
  simp only [ei, hkey, hval, hp]
  congr 1
  funext s
  exact masked_score h _ hq fx fW (fk s)

/-- The same of the second attention, over the agents of the scene. -/
theorem lateRow_row {m : FVec Ideal S720x128 .f32} {b : FVec Ideal S720x90 .f32} {q : FVec Ideal S720x128 .bf16}
    {k' v' : FVec Ideal S90x128 .bf16} {p : FVec Ideal S720x128 .f32} {i : Fin 9} {a : Fin 10} {h : Fin 8} {x : Fin 128 → EReal}
    {Wq : Fin 128 → Fin 128 → EReal} {k v : Fin 10 → Fin 128 → EReal} {P : Fin 8 → Fin 10 → EReal}
    (hq : ∀ c, q (ix2 (row i a h) c) = project x (fun b d => Wq b d * quarter) c * (if headOf c = h then 1 else 0))
    (hkey : ∀ (s : Fin 10) (c : Fin 128), k' (ix2 (agent i s) c) = k s c)
    (hval : ∀ (s : Fin 10) (c : Fin 128), v' (ix2 (agent i s) c) = v s c)
    (hp : ∀ s : Fin 10, p (ix2 (row i a h) (⟨(agent i s).val, by omega⟩ : Fin 128)) = P h s)
    (hb : ∀ n, b (ix2 (row i a h) n) = if i.val = n.val / 10 then (0 : EReal) else ⊥)
    (hm : ∀ c, m (ix2 (row i a h) c) = if headOf c = h then (1 : EReal) else 0)
    (fx : ∀ c, Finite (x c)) (fW : ∀ c d, Finite (Wq c d)) (fk : ∀ s d, Finite (k s d)) (fv : ∀ s d, Finite (v s d))
    (fP : ∀ h s, Finite (P h s)) (d : Fin 128) :
    lateRow m b q k' v' p (row i a h) d = attend (project x Wq) k v P d * (if headOf d = h then (1 : EReal) else 0) := by
  unfold lateRow
  rw [hm]
  by_cases e : headOf d = h
  swap
  · rw [if_neg e, mul_zero, mul_zero]
  congr 1
  rw [← expMean_attend (fun d => finite_project fx fW d) fk fv fP d, e]
  simp only [hb]
  rw [expMean_scene]
  simp only [hkey, hval, hp]
  congr 1
  funext s
  exact masked_score h _ hq fx fW (fk s)

/-- A block's rows of three parts, out of its operands. -/
def threeParts (x0 : Vec Ideal S1x1x90x128 .f32) (x1 : Vec Ideal S1x32x90x128 .f32) (x2 : Vec Ideal S9x10x32x8 .f32)
    (x3 : Vec Ideal S9x10x320 .i32) (x6 : Vec Ideal S720x128 .bf16) (x7 : Vec Ideal S720x128 .f32) (x8 : Vec Ideal S720x90 .bf16)
    (x9 : Vec Ideal S90x720 .bf16) (x11 : Vec Ideal S128x128 .bf16) (x12 : Vec Ideal S128x256 .bf16)
    (x13 : Vec Ideal S128x128 .bf16) (x14 : Vec Ideal S128x384 .bf16) : FVec Ideal S90x384 .bf16 :=
  after (k0_pay5 x9)
    (laid (scene (k0_pay3 x7) (k0_pay7 x6 x8 x0 x11) (k0_pay8 x1 x12) (k0_pay10 (k0_pay9 (F := Ideal) x2) x3))) x13 x14

/-- A block's result, out of its operands. -/
def block (x0 : Vec Ideal S1x1x90x128 .f32) (x1 : Vec Ideal S1x32x90x128 .f32) (x2 : Vec Ideal S9x10x32x8 .f32)
    (x3 : Vec Ideal S9x10x320 .i32) (x4 : Vec Ideal S9x10x3x8 .f32) (x5 : Vec Ideal S9x10x10 .i32) (x6 : Vec Ideal S720x128 .bf16)
    (x7 : Vec Ideal S720x128 .f32) (x8 : Vec Ideal S720x90 .bf16) (x9 : Vec Ideal S90x720 .bf16) (x10 : Vec Ideal S720x90 .f32)
    (x11 : Vec Ideal S128x128 .bf16) (x12 : Vec Ideal S128x256 .bf16) (x13 : Vec Ideal S128x128 .bf16)
    (x14 : Vec Ideal S128x384 .bf16) (x15 : Vec Ideal S128x128 .bf16) : FVec Ideal S9x10x128 .f32 :=
  have y : FVec Ideal S90x384 .bf16 := threeParts x0 x1 x2 x3 x6 x7 x8 x9 x11 x12 x13 x14
  late (k0_pay3 x7) (k0_pay5 x9) (named (k0_pay6 x10)) (lateQueries (k0_pay2 x6) (k0_pay4 x8) y)
    (lateRows 128 y slices_S90x384_o0_128_S90x128) (lateRows 256 y slices_S90x384_o0_256_S90x128)
    (fetch (k0_pay37 x4) (k0_pay38 (F := Ideal) x5) k0_pay39) x15

section

variable {x0 : Vec Ideal S1x1x90x128 .f32} {x1 : Vec Ideal S1x32x90x128 .f32} {x2 : Vec Ideal S9x10x32x8 .f32}
  {x3 : Vec Ideal S9x10x320 .i32} {x4 : Vec Ideal S9x10x3x8 .f32} {x5 : Vec Ideal S9x10x10 .i32} {x6 : Vec Ideal S720x128 .bf16}
  {x7 : Vec Ideal S720x128 .f32} {x8 : Vec Ideal S720x90 .bf16} {x9 : Vec Ideal S90x720 .bf16} {x10 : Vec Ideal S720x90 .f32}
  {x11 : Vec Ideal S128x128 .bf16} {x12 : Vec Ideal S128x256 .bf16} {x13 : Vec Ideal S128x128 .bf16}
  {x14 : Vec Ideal S128x384 .bf16} {x15 : Vec Ideal S128x128 .bf16}
  {S : Fin 10 → Fin 128 → EReal} {T : Fin 320 → Fin 128 → EReal} {P : Fin 10 → Fin 8 → Fin 320 → EReal}
  {P' : Fin 10 → Fin 8 → Fin 10 → EReal} {Wq Wk Wv Wp1 : Fin 128 → Fin 128 → EReal} {Wca : Fin 128 → Fin 384 → EReal}
  {k : Fin 10 → Fin 320 → Fin 32} {k' : Fin 10 → Fin 10 → Fin 3} {i : Fin 9}

/-- Row of agent `a` of scene `i` of the three parts: the scene's cross attention through the weights of the three parts. -/
theorem threeParts_apply (hM : Masks x6 x7 x8 x9 x10) (hW : Weights Wq Wk Wv Wca x11 x12 x14)
    (hS : ∀ a d, x0 (ix4 (0 : Fin 1) (0 : Fin 1) (agent i a) d) = S a d)
    (hT : ∀ (s : Fin 320) d, x1 (ix4 (0 : Fin 1) (⟨(320 * i.val + s.val) / 90, by omega⟩ : Fin 32)
      (⟨(320 * i.val + s.val) % 90, by omega⟩ : Fin 90) d) = T s d)
    (hP : ∀ a h s, x2 (ix4 i a (k a s) h) = P a h s) (hk : ∀ a s, (x3 (ix3 i a s)).toNat = (k a s).val)
    (h1 : ∀ b c, x13 (ix2 b c) = Wp1 b c)
    (fS : ∀ a d, Finite (S a d)) (fT : ∀ s d, Finite (T s d)) (fP : ∀ a h s, Finite (P a h s))
    (fq : ∀ b c, Finite (Wq b c)) (fk : ∀ b c, Finite (Wk b c)) (fv : ∀ b c, Finite (Wv b c)) (a : Fin 10) (c : Fin 384) :
    threeParts x0 x1 x2 x3 x6 x7 x8 x9 x11 x12 x13 x14 (ix2 (agent i a) c)
      = project (crossed S T P Wq Wk Wv Wp1 a) (fun b c => x14 (ix2 b c)) c := by
  unfold threeParts crossed
  rw [after_apply]
  simp only [h1]
  refine congrArg (fun f => project (project f Wp1) (fun b c => x14 (ix2 b c)) c) (funext fun d => ?_)
  have e9 (r : Fin 720) (n : Fin 90) : k0_pay5 x9 (ix2 n r) = if rowAgent r = n then (1 : EReal) else 0 :=
    (by pointwise [k0_pay5] : k0_pay5 x9 (ix2 n r) = x9 (ix2 n r)).trans (hM.agents' r n)
  simp only [laid_scene, e9]
  have own (r : Fin 720) (hr : rowAgent r = agent i a) :
      crossRow (k0_pay7 x6 x8 x0 x11) (k0_pay8 x1 x12) (k0_pay10 (k0_pay9 (F := Ideal) x2) x3) (k0_pay3 x7) r d
        = attend (project (S a) Wq) (fun t => project (T t) Wk) (fun t => project (T t) Wv) (P a) d
          * (if headOf d = rowHead r then (1 : EReal) else 0) := by
    obtain ⟨h, rfl⟩ : ∃ h, r = row i a h := ⟨rowHead r, Fin.ext (by
      have := congrArg Fin.val hr
      simp only [rowAgent, agent, rowHead, row] at *
      omega)⟩
    rw [rowHead_row]
    refine crossRow_row (fun c => ?_) (fun s c => ?_) (fun s c => ?_) (fun s => ?_) (fun c => ?_) (fS a) fq
      (fun s d => finite_project (fT s) fk d) (fun s d => finite_project (fT s) fv d) (fP a) d
    · rw [pay7_apply]
      simp only [hM.agents, hM.heads, hW.queries]
      rw [sum_agent, rowAgent_row, rowHead_row]
      simp only [hS]
    · rw [pay8_apply]
      simp only [hT, project, hW.keys]
    · rw [pay8_apply]
      simp only [hT, project, hW.values]
    · have e1 : (⟨(row i a h).val / 80, by omega⟩ : Fin 9) = i := Fin.ext (by simp only [row]; omega)
      have e2 : (⟨(row i a h).val / 8 % 10, by omega⟩ : Fin 10) = a := Fin.ext (by simp only [row]; omega)
      have e3 : (⟨(row i a h).val % 8, by omega⟩ : Fin 8) = h := Fin.ext (by simp only [row]; omega)
      rw [cross_table x2 x3 (row i a h) s (k a s) (by rw [e1, e2, hk]), e1, e2, e3, hP]
    · exact (by pointwise [k0_pay3] : k0_pay3 x7 (ix2 (row i a h) c) = x7 (ix2 (row i a h) c)).trans
        ((hM.heads' _ _).trans (by rw [rowHead_row]))
  rw [← sum_row (fun _ => attend (project (S a) Wq) (fun t => project (T t) Wk) (fun t => project (T t) Wv) (P a) d) i a (headOf d)]
  refine Finset.sum_congr rfl fun r _ => ?_
  by_cases hr : rowAgent r = agent i a
  · rw [own r hr]
  · rw [if_neg hr, zero_mul, zero_mul]

/-- The block's result at scene `i`, agent `a`, lane `d`: the scene's cross attention, then its self attention. -/
theorem block_apply (hM : Masks x6 x7 x8 x9 x10) (hW : Weights Wq Wk Wv Wca x11 x12 x14)
    (hS : ∀ a d, x0 (ix4 (0 : Fin 1) (0 : Fin 1) (agent i a) d) = S a d)
    (hT : ∀ (s : Fin 320) d, x1 (ix4 (0 : Fin 1) (⟨(320 * i.val + s.val) / 90, by omega⟩ : Fin 32)
      (⟨(320 * i.val + s.val) % 90, by omega⟩ : Fin 90) d) = T s d)
    (hP : ∀ a h s, x2 (ix4 i a (k a s) h) = P a h s) (hk : ∀ a s, (x3 (ix3 i a s)).toNat = (k a s).val)
    (hP' : ∀ a h b, x4 (ix4 i a (k' a b) h) = P' a h b) (hk' : ∀ a b, (x5 (ix3 i a b)).toNat = (k' a b).val)
    (h1 : ∀ b c, x13 (ix2 b c) = Wp1 b c)
    (fS : ∀ a d, Finite (S a d)) (fT : ∀ s d, Finite (T s d)) (fP : ∀ a h s, Finite (P a h s)) (fP' : ∀ a h s, Finite (P' a h s))
    (fq : ∀ b c, Finite (Wq b c)) (fk : ∀ b c, Finite (Wk b c)) (fv : ∀ b c, Finite (Wv b c)) (f1 : ∀ b c, Finite (Wp1 b c))
    (fca : ∀ b c, Finite (Wca b c)) (a : Fin 10) (d : Fin 128) :
    block x0 x1 x2 x3 x4 x5 x6 x7 x8 x9 x10 x11 x12 x13 x14 x15 (ix3 i a d)
      = selfed (crossed S T P Wq Wk Wv Wp1) P' Wca (fun b c => x15 (ix2 b c)) a d := by
  have hY := threeParts_apply hM hW hS hT hP hk h1 fS fT fP fq fk fv
  have fY (a : Fin 10) (d : Fin 128) : Finite (crossed S T P Wq Wk Wv Wp1 a d) :=
    finite_project (fun d => finite_attend (fun d => finite_project (fS a) fq d) (fun s d => finite_project (fT s) fk d)
      (fun s d => finite_project (fT s) fv d) (fP a) d) f1 d
  unfold block selfed
  generalize threeParts x0 x1 x2 x3 x6 x7 x8 x9 x11 x12 x13 x14 = y at hY ⊢
  generalize crossed S T P Wq Wk Wv Wp1 = Y at hY fY ⊢
  rw [late_apply]
  refine congrArg (fun f => project f (fun b c => x15 (ix2 b c)) d) (funext fun d => ?_)
  have e9 (r : Fin 720) (n : Fin 90) : k0_pay5 x9 (ix2 n r) = if rowAgent r = n then (1 : EReal) else 0 :=
    (by pointwise [k0_pay5] : k0_pay5 x9 (ix2 n r) = x9 (ix2 n r)).trans (hM.agents' r n)
  simp only [e9]
  change ∑ r : Fin 720, (if rowAgent r = agent i a then (1 : EReal) else 0) * _ = _
  have own (r : Fin 720) (hr : rowAgent r = agent i a) :
      lateRow (k0_pay3 x7) (named (k0_pay6 x10)) (lateQueries (k0_pay2 x6) (k0_pay4 x8) y) (lateRows 128 y slices_S90x384_o0_128_S90x128)
          (lateRows 256 y slices_S90x384_o0_256_S90x128) (fetch (k0_pay37 x4) (k0_pay38 (F := Ideal) x5) k0_pay39) r d
        = attend (part (project (Y a) Wca) 0) (fun b => part (project (Y b) Wca) 1) (fun b => part (project (Y b) Wca) 2) (P' a) d
          * (if headOf d = rowHead r then (1 : EReal) else 0) := by
    obtain ⟨h, rfl⟩ : ∃ h, r = row i a h := ⟨rowHead r, Fin.ext (by
      have := congrArg Fin.val hr
      simp only [rowAgent, agent, rowHead, row] at *
      omega)⟩
    rw [rowHead_row]
    have e0 : part (project (Y a) Wca) 0 = project (Y a) fun b c => Wca b ⟨c.val, by omega⟩ := funext fun c =>
      congrArg (project (Y a) Wca) (Fin.ext (by simp))
    rw [e0]
    refine lateRow_row (fun c => ?_) (fun s c => ?_) (fun s c => ?_) (fun s => ?_) (fun n => ?_) (fun c => ?_) (fY a)
      (fun _ _ => fca _ _) (fun s d => finite_project (fY s) fca _) (fun s d => finite_project (fY s) fca _) (fP' a) d
    · rw [lateQueries_apply]
      have e2 (r : Fin 720) (c : Fin 128) : k0_pay2 x6 (ix2 r c) = x6 (ix2 r c) := by pointwise [k0_pay2]
      have e4 (r : Fin 720) (n : Fin 90) : k0_pay4 x8 (ix2 r n) = x8 (ix2 r n) := by pointwise [k0_pay4]
      simp only [e2, e4, hM.agents, hM.heads]
      rw [sum_agent, rowAgent_row, rowHead_row, hY]
      simp only [project, hW.late]
    · refine Eq.trans (by pointwise [lateRows]) ((hY s ⟨128 + c.val, by omega⟩).trans ?_)
      simp only [project, hW.lateKeys, part]
      rfl
    · refine Eq.trans (by pointwise [lateRows]) ((hY s ⟨256 + c.val, by omega⟩).trans ?_)
      simp only [project, hW.lateValues, part]
      rfl
    · have e1 : (⟨(row i a h).val / 80, by omega⟩ : Fin 9) = i := Fin.ext (by simp only [row]; omega)
      have e2 : (⟨(row i a h).val / 8 % 10, by omega⟩ : Fin 10) = a := Fin.ext (by simp only [row]; omega)
      have e3 : (⟨(row i a h).val % 8, by omega⟩ : Fin 8) = h := Fin.ext (by simp only [row]; omega)
      have e4 : (⟨(agent i s).val % 10, by omega⟩ : Fin 10) = s := Fin.ext (by simp only [agent]; omega)
      rw [self_table x4 x5 (row i a h) (agent i s) (k' a s) (by rw [e1, e2, e4, hk']), e1, e2, e3, hP']
    · refine (named_apply ((by pointwise [k0_pay6] : k0_pay6 x10 (ix2 (row i a h) n) = x10 (ix2 (row i a h) n)).trans
        (hM.scenes _ _))).trans ?_
      have ei : (row i a h).val / 80 = i.val := by simp only [row]; omega
      rw [ei]
    · exact (by pointwise [k0_pay3] : k0_pay3 x7 (ix2 (row i a h) c) = x7 (ix2 (row i a h) c)).trans
        ((hM.heads' _ _).trans (by rw [rowHead_row]))
  rw [← sum_row (fun _ => attend (part (project (Y a) Wca) 0) (fun b => part (project (Y b) Wca) 1)
    (fun b => part (project (Y b) Wca) 2) (P' a) d) i a (headOf d)]
  refine Finset.sum_congr rfl fun r _ => ?_
  by_cases hr : rowAgent r = agent i a
  · rw [own r hr]
  · rw [if_neg hr, zero_mul, zero_mul]

end

end Cert.Attention

end
-- ==== Proof.Words.lean ====
/- The words of the kernel's masks: quotients and remainders of lane and row numbers, and a comparison of words as a number. -/
module

public import proofs.«01_k».proof.Proof.Scene
public import Idealize.ShloMosaic.Lib.Pointwise

@[expose] public section

noncomputable section

namespace Cert.Attention

open Idealize.ShloMosaic

/-- The sign of a word. -/
def signWord (x : BitVec 32) : BitVec 32 := if x = 0 then 0 else if x.msb = true then -1 else 1

/-- The quotient rounded down, as the host computes it. -/
def quotWord (x k : BitVec 32) : BitVec 32 :=
  Scalar.select (IntOp.andi (IntOp.cmpi .ne (signWord x) (signWord k)) (IntOp.cmpi .ne (IntOp.remsi .host x k) 0#32))
    (IntOp.subi (IntOp.divsi .host x k) 1#32) (IntOp.divsi .host x k)

/-- The remainder of the divisor's sign, as the host computes it. -/
def remWord (x k : BitVec 32) : BitVec 32 :=
  have k' := Scalar.select (IntOp.cmpi .eq k 0#32) 1#32 k
  have r := IntOp.remsi .host x k'
  Scalar.select (IntOp.andi (IntOp.cmpi .ne (IntOp.cmpi .slt r 0#32) (IntOp.cmpi .slt k' 0#32)) (IntOp.cmpi .ne r 0#32))
    (IntOp.addi r k') r

/-- A lane's head. -/
theorem quot_lane : ∀ d : Fin 128, quotWord (BitVec.ofNat 32 d.val) 16#32 = BitVec.ofNat 32 (d.val / 16) := by decide +kernel

/-- A row's head. -/
theorem rem_row : ∀ r : Fin 720, remWord (BitVec.ofNat 32 r.val) 8#32 = BitVec.ofNat 32 (r.val % 8) := by decide +kernel

/-- A row's agent. -/
theorem quot_row : ∀ r : Fin 720, quotWord (BitVec.ofNat 32 r.val) 8#32 = BitVec.ofNat 32 (r.val / 8) := by decide +kernel

/-- A row's scene. -/
theorem quot_row' : ∀ r : Fin 720, quotWord (BitVec.ofNat 32 r.val) 80#32 = BitVec.ofNat 32 (r.val / 80) := by decide +kernel

/-- An agent's scene. -/
theorem quot_agent : ∀ n : Fin 90, quotWord (BitVec.ofNat 32 n.val) 10#32 = BitVec.ofNat 32 (n.val / 10) := by decide +kernel

/-- Two small numbers' words compared: one where the numbers are equal. -/
theorem cmp_words {a b : ℕ} (ha : a < 1024) (hb : b < 1024) :
    IntOp.cmpi .eq (BitVec.ofNat 32 a) (BitVec.ofNat 32 b) = if a = b then 1#1 else 0#1 := by
  have e : BitVec.ofNat 32 a = BitVec.ofNat 32 b ↔ a = b := by
    constructor
    · intro h
      have := congrArg BitVec.toNat h
      simp only [BitVec.toNat_ofNat] at this
      omega
    · exact fun h => h ▸ rfl
  by_cases h : a = b
  · simp [IntOp.cmpi, h]
  · simp [IntOp.cmpi, h, beq_eq_false_iff_ne.mpr (mt e.mp h)]

/-- The comparison as a number. -/
theorem flag_words (φ : FTy) {a b : ℕ} (ha : a < 1024) (hb : b < 1024) :
    FloatOps.uitofp (F := Ideal) φ (IntOp.cmpi .eq (BitVec.ofNat 32 a) (BitVec.ofNat 32 b)) = if a = b then (1 : EReal) else 0 := by
  rw [cmp_words ha hb]
  split <;> simp [FloatOps.uitofp]

end Cert.Attention

end
-- ==== Proof.Host.lean ====
/- What the host hands the kernel: the masks and the weights. -/
module

public import proofs.«01_k».proof.Proof.Gen.KernelIdeal.Frame
public import proofs.«01_k».proof.Proof.Block
public import proofs.«01_k».proof.Proof.Words
public import Idealize.ShloMosaic.Lib.StableHlo.ReadAt

@[expose] public section

noncomputable section

namespace Cert.Attention

open Idealize.ShloMosaic Idealize.ShloMosaic.TcCoe Idealize.SL.Sem Cert.KernelIdeal Cert.KernelIdeal.Gen

variable (m : (ℓ : Loc nD τ sig) → Buf (Elt Ideal) ℓ) (c : Dev nD)

/-- The cross attention's query weight. -/
def argWq : Vec Ideal S128x128 .f32 := m ((c : Thread nD τ).loc main_arg4)
/-- The cross attention's key weight. -/
def argWk : Vec Ideal S128x128 .f32 := m ((c : Thread nD τ).loc main_arg5)
/-- The cross attention's value weight. -/
def argWv : Vec Ideal S128x128 .f32 := m ((c : Thread nD τ).loc main_arg6)
/-- The cross attention's closing weight. -/
def argWp1 : Vec Ideal S128x128 .f32 := m ((c : Thread nD τ).loc main_arg7)
/-- The self attention's three weights side by side. -/
def argWca : Vec Ideal S128x384 .f32 := m ((c : Thread nD τ).loc main_arg8)
/-- The self attention's closing weight. -/
def argWp2 : Vec Ideal S128x128 .f32 := m ((c : Thread nD τ).loc main_arg9)

/-- The query weight goes to the kernel with the quarter in. -/
theorem V_v2 (b d : Fin 128) : (V m c main_v2 : Vec Ideal S128x128 .bf16) (ix2 b d) = argWq m c (ix2 b d) * quarter := by
  unfold V
  after_reads_at
  rfl

/-- The key weight lies on the first lanes. -/
theorem V_v4_keys (b d : Fin 128) : (V m c main_v4 : Vec Ideal S128x256 .bf16) (ix2 b ⟨d.val, by omega⟩) = argWk m c (ix2 b d) := by
  unfold V
  after_reads_at
  after_reads_at
  rfl

/-- The value weight lies on the last lanes. -/
theorem V_v4_values (b d : Fin 128) : (V m c main_v4 : Vec Ideal S128x256 .bf16) (ix2 b ⟨128 + d.val, by omega⟩) = argWv m c (ix2 b d) := by
  unfold V
  after_reads_at
  after_reads_at
  rfl

/-- The self attention's query weight goes with the quarter in. -/
theorem V_v10_queries (b d : Fin 128) :
    (V m c main_v10 : Vec Ideal S128x384 .bf16) (ix2 b ⟨d.val, by omega⟩) = argWca m c (ix2 b ⟨d.val, by omega⟩) * quarter := by
  unfold V
  after_reads_at
  after_reads_at
  rfl

/-- Its key weight goes as it is. -/
theorem V_v10_keys (b d : Fin 128) :
    (V m c main_v10 : Vec Ideal S128x384 .bf16) (ix2 b ⟨128 + d.val, by omega⟩) = argWca m c (ix2 b ⟨128 + d.val, by omega⟩) := by
  unfold V
  after_reads_at
  after_reads_at
  rfl

/-- And its value weight. -/
theorem V_v10_values (b d : Fin 128) :
    (V m c main_v10 : Vec Ideal S128x384 .bf16) (ix2 b ⟨256 + d.val, by omega⟩) = argWca m c (ix2 b ⟨256 + d.val, by omega⟩) := by
  unfold V
  after_reads_at
  rw [dif_neg (by omega)]
  after_reads_at
  refine congrArg (argWca m c) (congrArg (ix2 b) (Fin.ext ?_))
  simp only
  omega

/-- The cross attention's closing weight. -/
theorem V_v11 (b d : Fin 128) : (V m c main_v11 : Vec Ideal S128x128 .bf16) (ix2 b d) = argWp1 m c (ix2 b d) := by
  unfold V
  after_reads_at
  rfl

/-- The self attention's closing weight. -/
theorem V_v12 (b d : Fin 128) : (V m c main_v12 : Vec Ideal S128x128 .bf16) (ix2 b d) = argWp2 m c (ix2 b d) := by
  unfold V
  after_reads_at
  rfl

/-- The comparison of a lane's head with a row's. -/
theorem heads_flag (φ : FTy) (r : Fin 720) (d : Fin 128) :
    FloatOps.uitofp (F := Ideal) φ (IntOp.cmpi .eq (quotWord (BitVec.ofNat 32 d.val) 16#32) (remWord (BitVec.ofNat 32 r.val) 8#32))
      = if headOf d = rowHead r then (1 : EReal) else 0 := by
  rw [quot_lane, rem_row, flag_words φ (by omega) (by omega)]
  simp only [headOf, rowHead, Fin.ext_iff]

/-- The comparison of a row's agent with an agent. -/
theorem agents_flag (φ : FTy) (r : Fin 720) (n : Fin 90) :
    FloatOps.uitofp (F := Ideal) φ (IntOp.cmpi .eq (quotWord (BitVec.ofNat 32 r.val) 8#32) (BitVec.ofNat 32 n.val))
      = if rowAgent r = n then (1 : EReal) else 0 := by
  rw [quot_row, flag_words φ (by omega) (by omega)]
  simp only [rowAgent, Fin.ext_iff]

/-- The same, the other way round. -/
theorem agents_flag' (φ : FTy) (r : Fin 720) (n : Fin 90) :
    FloatOps.uitofp (F := Ideal) φ (IntOp.cmpi .eq (BitVec.ofNat 32 n.val) (quotWord (BitVec.ofNat 32 r.val) 8#32))
      = if rowAgent r = n then (1 : EReal) else 0 := by
  rw [quot_row, flag_words φ (by omega) (by omega)]
  simp only [rowAgent, Fin.ext_iff, eq_comm]

/-- The choice by a row's scene and an agent's. -/
theorem scenes_flag (r : Fin 720) (n : Fin 90) :
    Scalar.select (IntOp.cmpi .eq (quotWord (BitVec.ofNat 32 r.val) 80#32) (quotWord (BitVec.ofNat 32 n.val) 10#32)) (0 : EReal) maskWord
      = if r.val / 80 = n.val / 10 then (0 : EReal) else maskWord := by
  rw [quot_row', quot_agent, cmp_words (by omega) (by omega)]
  split <;> simp [Scalar.select]

/-- The mask of a row's own head. -/
theorem V_v22 (r : Fin 720) (d : Fin 128) : (V m c main_v22 : Vec Ideal S720x128 .f32) (ix2 r d) = if headOf d = rowHead r then (1 : EReal) else 0 := by
  unfold V
  after_reads_at
  exact heads_flag .f32 r d

/-- The same for the multiplication. -/
theorem V_v23 (r : Fin 720) (d : Fin 128) : (V m c main_v23 : Vec Ideal S720x128 .bf16) (ix2 r d) = if headOf d = rowHead r then (1 : EReal) else 0 := by
  unfold V
  after_reads_at
  exact heads_flag .f32 r d

/-- The mask of a row's agent. -/
theorem V_v31 (r : Fin 720) (n : Fin 90) : (V m c main_v31 : Vec Ideal S720x90 .bf16) (ix2 r n) = if rowAgent r = n then (1 : EReal) else 0 := by
  unfold V
  after_reads_at
  exact agents_flag .bf16 r n

/-- The same, rows and agents exchanged. -/
theorem V_v38 (r : Fin 720) (n : Fin 90) : (V m c main_v38 : Vec Ideal S90x720 .bf16) (ix2 n r) = if rowAgent r = n then (1 : EReal) else 0 := by
  unfold V
  after_reads_at
  exact agents_flag' .bf16 r n

/-- The mask of a row's own scene. -/
theorem V_v47 (r : Fin 720) (n : Fin 90) : (V m c main_v47 : Vec Ideal S720x90 .f32) (ix2 r n) = if r.val / 80 = n.val / 10 then (0 : EReal) else maskWord := by
  unfold V
  after_reads_simp
  simp -implicitDefEqProofs only [StableHlo.TRef.toBuf, StableHlo.TRef.ofBuf, cast_cast, cast_eq, id]
  clean_types
  pointwise
  exact scenes_flag r n

end Cert.Attention

end
-- ==== Proof.Problem.lean ====
/- The problem as mathematics: 1440 scenes, each of ten agents and 320 map points, with the weights and the position scores. -/
module

public import proofs.«01_k».proof.Proof.Scene

@[expose] public section

noncomputable section

namespace Cert.Attention

open Idealize.ShloMosaic

/-- The arguments, entry by entry. -/
structure Problem where
  /-- The agents' tokens. -/
  agents : Fin 16 → Fin 10 → Fin 90 → Fin 128 → EReal
  /-- The map points' tokens. -/
  points : Fin 16 → Fin 320 → Fin 90 → Fin 128 → EReal
  /-- The position scores between agents, by relation. -/
  agentScores : Fin 1440 → Fin 10 → Fin 3 → Fin 8 → EReal
  /-- The position scores between agents and map points, by relation. -/
  pointScores : Fin 1440 → Fin 10 → Fin 32 → Fin 8 → EReal
  /-- The cross attention's query weights. -/
  Wq : Fin 128 → Fin 128 → EReal
  /-- Its key weights. -/
  Wk : Fin 128 → Fin 128 → EReal
  /-- Its value weights. -/
  Wv : Fin 128 → Fin 128 → EReal
  /-- Its output weights. -/
  Wp1 : Fin 128 → Fin 128 → EReal
  /-- The self attention's query, key and value weights. -/
  Wca : Fin 128 → Fin 384 → EReal
  /-- Its output weights. -/
  Wp2 : Fin 128 → Fin 128 → EReal
  /-- The relations between agents. -/
  agentRel : Fin 1440 → Fin 10 → Fin 10 → BitVec 32
  /-- The relations between agents and map points. -/
  pointRel : Fin 1440 → Fin 10 → Fin 320 → BitVec 32

namespace Problem

variable (p : Problem)

/-- What is asked of the arguments: finite entries, but in the last weights, and relations that index their tables. -/
structure Good : Prop where
  agents (i j n d) : Finite (p.agents i j n d)
  points (i j n d) : Finite (p.points i j n d)
  agentScores (s a k h) : Finite (p.agentScores s a k h)
  pointScores (s a k h) : Finite (p.pointScores s a k h)
  Wq (b c) : Finite (p.Wq b c)
  Wk (b c) : Finite (p.Wk b c)
  Wv (b c) : Finite (p.Wv b c)
  Wp1 (b c) : Finite (p.Wp1 b c)
  Wca (b c) : Finite (p.Wca b c)
  agentRel (s a b) : (p.agentRel s a b).toNat < 3
  pointRel (s a b) : (p.pointRel s a b).toNat < 32

/-- The tokens of the agents of scene `s`: ten rows of the tokens in order. -/
def agentsOf (s : Fin 1440) (a : Fin 10) (d : Fin 128) : EReal :=
  p.agents ⟨(s.val * 10 + a.val) / 900, by omega⟩ ⟨(s.val * 10 + a.val) / 90 % 10, by omega⟩ ⟨(s.val * 10 + a.val) % 90, by omega⟩ d

/-- The tokens of the map points of scene `s`: 320 rows of the tokens in order. -/
def pointsOf (s : Fin 1440) (t : Fin 320) (d : Fin 128) : EReal :=
  p.points ⟨(s.val * 320 + t.val) / 28800, by omega⟩ ⟨(s.val * 320 + t.val) / 90 % 320, by omega⟩
    ⟨(s.val * 320 + t.val) % 90, by omega⟩ d

/-- The entry of a table of `n + 1` that a word names, the last one beyond. -/
def pick (n : ℕ) (w : BitVec 32) : Fin (n + 1) := ⟨min w.toNat n, by omega⟩

/-- The position scores of the agents of scene `s` against its map points, by head. -/
def pointScoresOf (s : Fin 1440) (a : Fin 10) (h : Fin 8) (t : Fin 320) : EReal :=
  p.pointScores s a (pick 31 (p.pointRel s a t)) h

/-- The position scores of the agents of scene `s` against one another, by head. -/
def agentScoresOf (s : Fin 1440) (a : Fin 10) (h : Fin 8) (b : Fin 10) : EReal :=
  p.agentScores s a (pick 2 (p.agentRel s a b)) h

/-- The answer: each scene's cross attention, then its self attention. -/
def answer (s : Fin 1440) : Fin 10 → Fin 128 → EReal :=
  selfed (crossed (p.agentsOf s) (p.pointsOf s) (p.pointScoresOf s) p.Wq p.Wk p.Wv p.Wp1) (p.agentScoresOf s) p.Wca p.Wp2

variable {p}

/-- A word in range picks its own entry. -/
theorem pick_val {n : ℕ} {w : BitVec 32} (h : w.toNat < n + 1) : w.toNat = (pick n w).val := by
  simp only [pick]
  omega

end Problem

end Cert.Attention

end
-- ==== Proof.Blocks.lean ====
/- The blocks that one grid point sees: nine scenes' rows of the arguments, and the masks and weights whole. -/
module

public import proofs.«01_k».proof.Proof.Host
public import proofs.«01_k».proof.Proof.Problem
public import proofs.«01_k».proof.Proof.Gen.KernelIdeal.Value
public import Idealize.ShloMosaic.Lib.Pipeline.ValueKit

@[expose] public section

noncomputable section

namespace Cert.Attention

open Idealize.ShloMosaic Idealize.ShloMosaic.TcCoe Idealize.SL.Sem Cert.KernelIdeal Cert.KernelIdeal.Gen

/-- The tokens move with both grid coordinates, the tables with the point, and the masks and weights stay. -/
theorem places : ∀ t : Fin grid0.N, win0_0.index t = ![t.val / 10, t.val % 10, 0, 0] ∧ win0_1.index t = ![t.val / 10, t.val % 10, 0, 0]
    ∧ win0_2.index t = ![t.val, 0, 0, 0] ∧ win0_3.index t = ![t.val, 0, 0] ∧ win0_4.index t = ![t.val, 0, 0, 0]
    ∧ win0_5.index t = ![t.val, 0, 0] ∧ win0_16.index t = ![t.val, 0, 0] := by decide +kernel

/-- The masks and weights stay. -/
theorem places' : ∀ t : Fin grid0.N, win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] := by decide +kernel

variable (m : (ℓ : Loc nD τ sig) → Buf (Elt Ideal) ℓ) (c : Dev nD)

/-- The agents' tokens. -/
def argAgents : Vec Ideal S16x10x90x128 .f32 := m ((c : Thread nD τ).loc main_arg0)
/-- The map points' tokens. -/
def argPoints : Vec Ideal S16x320x90x128 .f32 := m ((c : Thread nD τ).loc main_arg1)
/-- The position scores between agents. -/
def argAgentScores : Vec Ideal S1440x10x3x8 .f32 := m ((c : Thread nD τ).loc main_arg2)
/-- The position scores between agents and map points. -/
def argPointScores : Vec Ideal S1440x10x32x8 .f32 := m ((c : Thread nD τ).loc main_arg3)
/-- The relations between agents. -/
def argAgentRel : Vec Ideal S1440x10x10 .i32 := m ((c : Thread nD τ).loc main_arg10)
/-- The relations between agents and map points. -/
def argPointRel : Vec Ideal S1440x10x320 .i32 := m ((c : Thread nD τ).loc main_arg11)

variable (t : Fin cfg0.N)

theorem lt_points : t.val < 160 := t.isLt

/-- The agents' tokens of a point. -/
theorem blk0 (n : Fin 90) (d : Fin 128) : (iblk m c 0 t : Vec Ideal S1x1x90x128 .f32) (ix4 (0 : Fin 1) (0 : Fin 1) n d)
    = argAgents m c (ix4 ⟨t.val / 10, by have := lt_points t; omega⟩ ⟨t.val % 10, by omega⟩ n d) := by
  unfold iblk argAgents
  change V m c main_arg0 _ = _
  rw [V_main_arg0]
  blk_ext [places t]

/-- The map points' tokens of a point. -/
theorem blk1 (u : Fin 32) (n : Fin 90) (d : Fin 128) : (iblk m c 1 t : Vec Ideal S1x32x90x128 .f32) (ix4 (0 : Fin 1) u n d)
    = argPoints m c (ix4 ⟨t.val / 10, by have := lt_points t; omega⟩ ⟨t.val % 10 * 32 + u.val, by omega⟩ n d) := by
  unfold iblk argPoints
  change V m c main_arg1 _ = _
  rw [V_main_arg1]
  blk_ext [places t]

/-- The position scores, agents against map points, of a point. -/
theorem blk2 (i : Fin 9) (a : Fin 10) (k : Fin 32) (h : Fin 8) : (iblk m c 2 t : Vec Ideal S9x10x32x8 .f32) (ix4 i a k h)
    = argPointScores m c (ix4 ⟨t.val * 9 + i.val, by have := lt_points t; omega⟩ a k h) := by
  unfold iblk argPointScores
  change V m c main_arg3 _ = _
  rw [V_main_arg3]
  blk_ext [places t]

/-- The relations, agents to map points, of a point. -/
theorem blk3 (i : Fin 9) (a : Fin 10) (s : Fin 320) : (iblk m c 3 t : Vec Ideal S9x10x320 .i32) (ix3 i a s)
    = argPointRel m c (ix3 ⟨t.val * 9 + i.val, by have := lt_points t; omega⟩ a s) := by
  unfold iblk argPointRel
  change V m c main_arg11 _ = _
  rw [V_main_arg11]
  blk_ext [places t]

/-- The position scores between agents of a point. -/
theorem blk4 (i : Fin 9) (a : Fin 10) (k : Fin 3) (h : Fin 8) : (iblk m c 4 t : Vec Ideal S9x10x3x8 .f32) (ix4 i a k h)
    = argAgentScores m c (ix4 ⟨t.val * 9 + i.val, by have := lt_points t; omega⟩ a k h) := by
  unfold iblk argAgentScores
  change V m c main_arg2 _ = _
  rw [V_main_arg2]
  blk_ext [places t]

/-- The relations between agents of a point. -/
theorem blk5 (i : Fin 9) (a b : Fin 10) : (iblk m c 5 t : Vec Ideal S9x10x10 .i32) (ix3 i a b)
    = argAgentRel m c (ix3 ⟨t.val * 9 + i.val, by have := lt_points t; omega⟩ a b) := by
  unfold iblk argAgentRel
  change V m c main_arg10 _ = _
  rw [V_main_arg10]
  blk_ext [places t]

/-- The mask of the heads, for the multiplication, whole. -/
theorem blk6 (r : Fin 720) (d : Fin 128) : (iblk m c 6 t : Vec Ideal S720x128 .bf16) (ix2 r d) = (V m c main_v23 : Vec Ideal S720x128 .bf16) (ix2 r d) := by
  change V m c main_v23 _ = _
  generalize V m c main_v23 = x
  blk_ext [places' t]

/-- The mask of the heads, whole. -/
theorem blk7 (r : Fin 720) (d : Fin 128) : (iblk m c 7 t : Vec Ideal S720x128 .f32) (ix2 r d) = (V m c main_v22 : Vec Ideal S720x128 .f32) (ix2 r d) := by
  change V m c main_v22 _ = _
  generalize V m c main_v22 = x
  blk_ext [places' t]

/-- The mask of the agents, whole. -/
theorem blk8 (r : Fin 720) (n : Fin 90) : (iblk m c 8 t : Vec Ideal S720x90 .bf16) (ix2 r n) = (V m c main_v31 : Vec Ideal S720x90 .bf16) (ix2 r n) := by
  change V m c main_v31 _ = _
  generalize V m c main_v31 = x
  blk_ext [places' t]

/-- The same, the other way round, whole. -/
theorem blk9 (n : Fin 90) (r : Fin 720) : (iblk m c 9 t : Vec Ideal S90x720 .bf16) (ix2 n r) = (V m c main_v38 : Vec Ideal S90x720 .bf16) (ix2 n r) := by
  change V m c main_v38 _ = _
  generalize V m c main_v38 = x
  blk_ext [places' t]

/-- The mask of the scenes, whole. -/
theorem blk10 (r : Fin 720) (n : Fin 90) : (iblk m c 10 t : Vec Ideal S720x90 .f32) (ix2 r n) = (V m c main_v47 : Vec Ideal S720x90 .f32) (ix2 r n) := by
  change V m c main_v47 _ = _
  generalize V m c main_v47 = x
  blk_ext [places' t]

/-- The masks of a point are the host's. -/
theorem masks_blk : Masks (iblk m c 6 t) (iblk m c 7 t) (iblk m c 8 t) (iblk m c 9 t) (iblk m c 10 t) where
  heads r d := (blk6 m c t r d).trans (V_v23 m c r d)
  heads' r d := (blk7 m c t r d).trans (V_v22 m c r d)
  agents r n := (blk8 m c t r n).trans (V_v31 m c r n)
  agents' r n := (blk9 m c t n r).trans (V_v38 m c r n)
  scenes r n := (blk10 m c t r n).trans (V_v47 m c r n)

/-- The query weights of a point, whole. -/
theorem blk11 (b d : Fin 128) : (iblk m c 11 t : Vec Ideal S128x128 .bf16) (ix2 b d) = (V m c main_v2 : Vec Ideal S128x128 .bf16) (ix2 b d) := by
  change V m c main_v2 _ = _
  generalize V m c main_v2 = x
  blk_ext [places' t]

/-- The key and value weights of a point, whole. -/
theorem blk12 (b : Fin 128) (d : Fin 256) : (iblk m c 12 t : Vec Ideal S128x256 .bf16) (ix2 b d) = (V m c main_v4 : Vec Ideal S128x256 .bf16) (ix2 b d) := by
  change V m c main_v4 _ = _
  generalize V m c main_v4 = x
  blk_ext [places' t]

/-- The cross attention's closing weights of a point. -/
theorem blk13 (b d : Fin 128) : (iblk m c 13 t : Vec Ideal S128x128 .bf16) (ix2 b d) = argWp1 m c (ix2 b d) := by
  refine Eq.trans ?_ (V_v11 m c b d)
  change V m c main_v11 _ = _
  generalize V m c main_v11 = x
  blk_ext [places' t]

/-- The self attention's three weights of a point, whole. -/
theorem blk14 (b : Fin 128) (d : Fin 384) : (iblk m c 14 t : Vec Ideal S128x384 .bf16) (ix2 b d) = (V m c main_v10 : Vec Ideal S128x384 .bf16) (ix2 b d) := by
  change V m c main_v10 _ = _
  generalize V m c main_v10 = x
  blk_ext [places' t]

/-- The self attention's closing weights of a point. -/
theorem blk15 (b d : Fin 128) : (iblk m c 15 t : Vec Ideal S128x128 .bf16) (ix2 b d) = argWp2 m c (ix2 b d) := by
  refine Eq.trans ?_ (V_v12 m c b d)
  change V m c main_v12 _ = _
  generalize V m c main_v12 = x
  blk_ext [places' t]

/-- The weights of a point are the arguments', a quarter in the queries'. -/
theorem weights_blk : Weights (fun b d => argWq m c (ix2 b d)) (fun b d => argWk m c (ix2 b d)) (fun b d => argWv m c (ix2 b d))
    (fun b d => argWca m c (ix2 b d)) (iblk m c 11 t) (iblk m c 12 t) (iblk m c 14 t) where
  queries b d := (blk11 m c t b d).trans (V_v2 m c b d)
  keys b d := (blk12 m c t b _).trans (V_v4_keys m c b d)
  values b d := (blk12 m c t b _).trans (V_v4_values m c b d)
  late b d := (blk14 m c t b _).trans (V_v10_queries m c b d)
  lateKeys b d := (blk14 m c t b _).trans (V_v10_keys m c b d)
  lateValues b d := (blk14 m c t b _).trans (V_v10_values m c b d)

end Cert.Attention

end
-- ==== Proof.Out.lean ====
/- What the body of one grid point leaves in the result's buffer. -/
module

public import proofs.«01_k».proof.Proof.Block
public import proofs.«01_k».proof.Proof.Gen.KernelIdeal.Value
public import Idealize.ShloMosaic.Lib.Pipeline.ValueKit

@[expose] public section

noncomputable section

namespace Cert.Attention

open Idealize.ShloMosaic Idealize.ShloMosaic.TcCoe Idealize.SL.Sem Cert.KernelIdeal Cert.KernelIdeal.Gen

/-- What the body leaves in the result's buffer is the block's result. -/
theorem out_eq (x0 : Vec Ideal S1x1x90x128 .f32) (x1 : Vec Ideal S1x32x90x128 .f32) (x2 : Vec Ideal S9x10x32x8 .f32)
    (x3 : Vec Ideal S9x10x320 .i32) (x4 : Vec Ideal S9x10x3x8 .f32) (x5 : Vec Ideal S9x10x10 .i32) (x6 : Vec Ideal S720x128 .bf16)
    (x7 : Vec Ideal S720x128 .f32) (x8 : Vec Ideal S720x90 .bf16) (x9 : Vec Ideal S90x720 .bf16) (x10 : Vec Ideal S720x90 .f32)
    (x11 : Vec Ideal S128x128 .bf16) (x12 : Vec Ideal S128x256 .bf16) (x13 : Vec Ideal S128x128 .bf16)
    (x14 : Vec Ideal S128x384 .bf16) (x15 : Vec Ideal S128x128 .bf16) :
    out0_16 x0 x1 x2 x3 x4 x5 x6 x7 x8 x9 x10 x11 x12 x13 x14 x15 = block x0 x1 x2 x3 x4 x5 x6 x7 x8 x9 x10 x11 x12 x13 x14 x15 := by
  unfold_out out0_16
  frame_out
  rw [pay1_eq]
  rfl

end Cert.Attention

end
-- ==== Proof.Array.lean ====
/- What the kernel's result array holds after the run: every scene's answer. -/
module

public import proofs.«01_k».proof.Proof.Blocks
public import proofs.«01_k».proof.Proof.Out

@[expose] public section

noncomputable section

namespace Cert.Attention

open Idealize.ShloMosaic Idealize.ShloMosaic.TcCoe Idealize.SL.Sem Cert.KernelIdeal Cert.KernelIdeal.Gen

variable (m : (ℓ : Loc nD τ sig) → Buf (Elt Ideal) ℓ) (c : Dev nD)

/-- The kernel's arguments as the problem's. -/
def problem : Problem where
  agents i j n d := argAgents m c (ix4 i j n d)
  points i j n d := argPoints m c (ix4 i j n d)
  agentScores s a k h := argAgentScores m c (ix4 s a k h)
  pointScores s a k h := argPointScores m c (ix4 s a k h)
  Wq b d := argWq m c (ix2 b d)
  Wk b d := argWk m c (ix2 b d)
  Wv b d := argWv m c (ix2 b d)
  Wp1 b d := argWp1 m c (ix2 b d)
  Wca b d := argWca m c (ix2 b d)
  Wp2 b d := argWp2 m c (ix2 b d)
  agentRel s a b := argAgentRel m c (ix3 s a b)
  pointRel s a b := argPointRel m c (ix3 s a b)

/-- A point's block holds the answers of its nine scenes. -/
theorem point_answer (hg : (problem m c).Good) (t : Fin cfg0.N) (i : Fin 9) (a : Fin 10) (d : Fin 128) :
    block (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t)
        (ix3 i a d)
      = (problem m c).answer ⟨t.val * 9 + i.val, by have := lt_points t; omega⟩ a d := by
  have ht := lt_points t
  set s : Fin 1440 := ⟨t.val * 9 + i.val, by omega⟩ with hs
  have e := block_apply (S := (problem m c).agentsOf s) (T := (problem m c).pointsOf s) (P := (problem m c).pointScoresOf s)
    (P' := (problem m c).agentScoresOf s) (Wp1 := (problem m c).Wp1)
    (k := fun a t => Problem.pick 31 ((problem m c).pointRel s a t)) (k' := fun a b => Problem.pick 2 ((problem m c).agentRel s a b))
    (i := i) (masks_blk m c t) (weights_blk m c t) (x0 := iblk m c 0 t) (x1 := iblk m c 1 t) (x2 := iblk m c 2 t) (x3 := iblk m c 3 t)
    (x4 := iblk m c 4 t) (x5 := iblk m c 5 t) (x13 := iblk m c 13 t) (x15 := iblk m c 15 t)
    (fun a d => ?_) (fun u d => ?_) (fun a h u => ?_) (fun a u => ?_) (fun a h b => ?_) (fun a b => ?_) (blk13 m c t)
    (fun _ _ => hg.agents _ _ _ _) (fun _ _ => hg.points _ _ _ _) (fun _ _ _ => hg.pointScores _ _ _ _)
    (fun _ _ _ => hg.agentScores _ _ _ _) hg.Wq hg.Wk hg.Wv hg.Wp1 hg.Wca a d
  · rw [e]
    simp only [blk15]
    rfl
  · rw [blk0]
    refine congrArg (argAgents m c) ?_
    congr 1 <;> apply Fin.ext <;> simp only [agent, hs] <;> omega
  · rw [blk1]
    refine congrArg (argPoints m c) ?_
    congr 1 <;> apply Fin.ext <;> simp only [hs] <;> omega
  · rw [blk2]
    rfl
  · rw [blk3]
    exact Problem.pick_val (n := 31) (hg.pointRel s a u)
  · rw [blk4]
    rfl
  · rw [blk5]
    exact Problem.pick_val (n := 2) (hg.agentRel s a b)

/-- The result array after the run: the answer of every scene. -/
theorem final (hg : (problem m c).Good) :
    (dats m 0 c).arrAt 16 cfg0.N = fun y : S1440x10x128.Idx => (problem m c).answer (y 0) (y 1) (y 2) := by
  refine (dats m 0 c).arrAt_eq_of_covers 16 _ (by decide +kernel) fun t hf y => ?_
  blk_simp
  rw [after0_16, out_eq]
  obtain ⟨i, a, d, rfl⟩ : ∃ i a d, y = ix3 i a d := ⟨y 0, y 1, y 2, by funext k; fin_cases k <;> rfl⟩
  rw [point_answer m c hg t i a d]
  congr 1 <;> apply Fin.ext <;> blk_simp [places t]

end Cert.Attention

end
-- ==== Proof.RefArgs.lean ====
/- The reference's projections, head by head, and its position scores, at an index. -/
module

public import proofs.«01_k».proof.Proof.Gen.ReferenceIdeal.Read
public import proofs.«01_k».proof.Proof.Problem
public import Idealize.ShloMosaic.Lib.Pointwise

@[expose] public section

noncomputable section

namespace Cert.Attention

open Idealize.ShloMosaic Cert.ReferenceIdeal Cert.ReferenceIdeal.Gen Cert.ReferenceIdeal.Read

/-- The problem that twelve arrays state. -/
def ofArgs (x0 : Vec Ideal S16x10x90x128 .f32) (x1 : Vec Ideal S16x320x90x128 .f32) (x2 : Vec Ideal S1440x10x3x8 .f32)
    (x3 : Vec Ideal S1440x10x32x8 .f32) (x4 x5 x6 x7 : Vec Ideal S128x128 .f32) (x8 : Vec Ideal S128x384 .f32)
    (x9 : Vec Ideal S128x128 .f32) (x10 : Vec Ideal S1440x10x10 .i32) (x11 : Vec Ideal S1440x10x320 .i32) : Problem where
  agents i j n d := x0 (ix4 i j n d)
  points i j n d := x1 (ix4 i j n d)
  agentScores s a k h := x2 (ix4 s a k h)
  pointScores s a k h := x3 (ix4 s a k h)
  Wq b d := x4 (ix2 b d)
  Wk b d := x5 (ix2 b d)
  Wv b d := x6 (ix2 b d)
  Wp1 b d := x7 (ix2 b d)
  Wca b d := x8 (ix2 b d)
  Wp2 b d := x9 (ix2 b d)
  agentRel s a b := x10 (ix3 s a b)
  pointRel s a b := x11 (ix3 s a b)

variable (x0 : Vec Ideal S16x10x90x128 .f32) (x1 : Vec Ideal S16x320x90x128 .f32) (x2 : Vec Ideal S1440x10x3x8 .f32)
    (x3 : Vec Ideal S1440x10x32x8 .f32) (x4 x5 x6 x7 : Vec Ideal S128x128 .f32) (x8 : Vec Ideal S128x384 .f32)
    (x9 : Vec Ideal S128x128 .f32) (x10 : Vec Ideal S1440x10x10 .i32) (x11 : Vec Ideal S1440x10x320 .i32)

/-- The agents' rows, scene by scene. -/
theorem ref_agents (s : Fin 1440) (a : Fin 10) (d : Fin 128) :
    val_main_v0 x0 (ix3 s a d) = (ofArgs x0 x1 x2 x3 x4 x5 x6 x7 x8 x9 x10 x11).agentsOf s a d := by
  rw [val_main_v0_apply]
  refine congrArg x0 (funext fun k => Fin.ext ?_)
  have := s.isLt
  fin_cases k <;> simp [idx_main_v0] <;> omega

/-- The map points' rows, scene by scene. -/
theorem ref_points (s : Fin 1440) (t : Fin 320) (d : Fin 128) :
    val_main_v1 x1 (ix3 s t d) = (ofArgs x0 x1 x2 x3 x4 x5 x6 x7 x8 x9 x10 x11).pointsOf s t d := by
  rw [val_main_v1_apply]
  refine congrArg x1 (funext fun k => Fin.ext ?_)
  have := s.isLt
  fin_cases k <;> simp [idx_main_v1] <;> omega

/-- The cross attention's queries: rows through weights, split by head. -/
theorem ref_queries (s : Fin 1440) (h : Fin 8) (a : Fin 10) (e : Fin 16) :
    val_main_v4 x0 x4 (ix4 s h a e) = ∑ c : Fin 128, val_main_v0 x0 (ix3 s a c) * x4 (ix2 c (lane h e)) := by
  pointwise [val_main_v4, val_main_v3, val_main_v2, lane]

/-- The cross attention's keys. -/
theorem ref_keys (s : Fin 1440) (h : Fin 8) (t : Fin 320) (e : Fin 16) :
    val_main_v7 x1 x5 (ix4 s h t e) = ∑ c : Fin 128, val_main_v1 x1 (ix3 s t c) * x5 (ix2 c (lane h e)) := by
  pointwise [val_main_v7, val_main_v6, val_main_v5, lane]

/-- The cross attention's values. -/
theorem ref_values (s : Fin 1440) (h : Fin 8) (t : Fin 320) (e : Fin 16) :
    val_main_v10 x1 x6 (ix4 s h t e) = ∑ c : Fin 128, val_main_v1 x1 (ix3 s t c) * x6 (ix2 c (lane h e)) := by
  pointwise [val_main_v10, val_main_v9, val_main_v8, lane]

/-- The cross attention's products of queries and keys, over four. -/
theorem ref_products (s : Fin 1440) (h : Fin 8) (a : Fin 10) (t : Fin 320) :
    val_main_v13 x0 x1 x4 x5 (ix4 s h a t)
      = Ideal.div (∑ e : Fin 16, val_main_v4 x0 x4 (ix4 s h a e) * val_main_v7 x1 x5 (ix4 s h t e)) four := by
  pointwise [val_main_v13, val_main_v12, val_main_cst, val_main_v11, four]

end Cert.Attention

end
-- ==== Proof.RefTable.lean ====
/- The reference's reading of a table of position scores by an array of relations. -/
module

public import proofs.«01_k».proof.Proof.RefArgs

@[expose] public section

noncomputable section

namespace Cert.Attention

open Idealize.ShloMosaic Cert.ReferenceIdeal Cert.ReferenceIdeal.Gen Cert.ReferenceIdeal.Read

/-- The place in the array of start words that belongs to place `(a, b, c, d)` of the result. -/
abbrev startAt {A B C D : ℕ} (a : Fin A) (b : Fin B) (c : Fin C) (d : Fin D) : (⟨5, ![A, B, C, D, 1]⟩ : Shape).Idx
  | ⟨0, _⟩ => ⟨a.val, a.isLt⟩
  | ⟨1, _⟩ => ⟨b.val, b.isLt⟩
  | ⟨2, _⟩ => ⟨c.val, c.isLt⟩
  | ⟨3, _⟩ => ⟨d.val, d.isLt⟩
  | ⟨4, _⟩ => ⟨0, Nat.one_pos⟩

/-- A gather along axis 2 with the other axes kept reads, at each place, the entry that the place's start word names. -/
theorem gather_axis_two {α : Type} {A B C D N w : ℕ} (hN : 0 < N)
    (g : GatherDims ⟨4, ![A, B, N, D]⟩ ⟨5, ![A, B, C, D, 1]⟩ ⟨4, ![A, B, C, D]⟩) (ho : g.offsetDims = [])
    (hc : g.collapsedSliceDims = [2]) (hb : g.operandBatchingDims = [0, 1, 3]) (hs : g.startIndicesBatchingDims = [0, 1, 3])
    (hm : g.startIndexMap = [2]) (hv : g.indexVectorDim = 4) (hz : g.sliceSizes = ![1, 1, 1, 1])
    (x : (⟨4, ![A, B, N, D]⟩ : Shape).Idx → α) (i : IVec ⟨5, ![A, B, C, D, 1]⟩ w)
    (a : Fin A) (b : Fin B) (c : Fin C) (d : Fin D) :
    Host.gather g x i (ix4 a b c d) = x (ix4 a b ⟨min (i (startAt a b c d)).toInt.toNat (N - 1), by omega⟩ d) := by
  obtain ⟨o, cs, ob, sb, sm, iv, sz, wf⟩ := g
  dsimp only at ho hc hb hs hm hv hz
  subst ho hc hb hs hm hv hz
  set g : GatherDims ⟨4, ![A, B, N, D]⟩ ⟨5, ![A, B, C, D, 1]⟩ ⟨4, ![A, B, C, D]⟩ := ⟨_, _, _, _, _, _, _, wf⟩ with hg
  have off (k : Fin 4) : g.offCoord (ix4 a b c d) k = 0 := g.offCoord_eq_zero _ _ fun h => by
    have := (g.mem_sKept k).mp h
    fin_cases k <;> simp [hg] at this
  have kept (k : Fin 4) (hk : k ∈ g.operandBatchingDims) : (g.operandIdx (ix4 a b c d) i k).val = g.batchCoord (ix4 a b c d) k := by
    change g.start _ i k + g.batchCoord _ k + g.offCoord _ k = _
    rw [g.start_batching _ _ _ hk, off, zero_add, add_zero]
  unfold Host.gather
  refine congrArg x (funext fun k => Fin.ext ?_)
  fin_cases k
  · exact (kept 0 (by simp [hg])).trans ((dif_pos (by simp [hg])).trans rfl)
  · exact (kept 1 (by simp [hg])).trans ((dif_pos (by simp [hg])).trans rfl)
  · change g.start _ i 2 + g.batchCoord _ 2 + g.offCoord _ 2 = _
    rw [off, g.batchCoord_eq_zero _ _ (by simp [hg]), add_zero, add_zero]
    refine (dif_pos (by simp [hg])).trans ?_
    have : g.siIdx (ix4 a b c d) ⟨g.startIndexMap.idxOf 2, List.idxOf_lt_length_iff.2 (by simp [hg])⟩ = startAt a b c d := by
      funext l
      fin_cases l <;> rfl
    rw [this]
    rfl
  · exact (kept 3 (by simp [hg])).trans ((dif_pos (by simp [hg])).trans rfl)

variable (x2 : Vec Ideal S1440x10x3x8 .f32) (x3 : Vec Ideal S1440x10x32x8 .f32) (x10 : Vec Ideal S1440x10x10 .i32)
    (x11 : Vec Ideal S1440x10x320 .i32)

/-- A word below 32 is its own clip into 0 … 31, is not below zero, and is above −1. -/
theorem word32 : ∀ n : Fin 32, IntOp.minsi 31#32 (IntOp.maxsi 0#32 (BitVec.ofNat 32 n)) = BitVec.ofNat 32 n
    ∧ IntOp.cmpi .slt (BitVec.ofNat 32 n) 0#32 = 0#1 ∧ IntOp.cmpi .sgt (BitVec.ofNat 32 n) 4294967295#32 = 1#1
    ∧ (BitVec.ofNat 32 n).toInt.toNat = n := by decide

/-- A word below 3 is its own clip into 0 … 2, is not below zero, and is above −1. -/
theorem word3 : ∀ n : Fin 3, IntOp.minsi 2#32 (IntOp.maxsi 0#32 (BitVec.ofNat 32 n)) = BitVec.ofNat 32 n
    ∧ IntOp.cmpi .slt (BitVec.ofNat 32 n) 0#32 = 0#1 ∧ IntOp.cmpi .sgt (BitVec.ofNat 32 n) 4294967295#32 = 1#1
    ∧ (BitVec.ofNat 32 n).toInt.toNat = n := by decide

/-- The clipped relation words, spread over the heads. -/
theorem clip_points (s : Fin 1440) (a : Fin 10) (t : Fin 320) (h : Fin 8) :
    val_main_v16 (F := Ideal) x11 (ix4 s a t h) = IntOp.minsi 31#32 (IntOp.maxsi 0#32 (x11 (ix3 s a t))) := by
  pointwise [val_main_v16, val_main_v15, val_main_v14, val_main_call0_v4, val_main_call0_v3, val_main_call0_v2, val_main_call0_v1, val_main_call0_v0, val_main_c, val_main_c_0]
  rfl

/-- The start words of the table are the relation words, where those index the table. -/
theorem start_points (s : Fin 1440) (a : Fin 10) (t : Fin 320) (h : Fin 8) (hw : (x11 (ix3 s a t)).toNat < 32) :
    val_main_call1_v5 (F := Ideal) x11 (startAt s a t h) = x11 (ix3 s a t) := by
  have e : idx_main_call1_v5 (startAt s a t h) = ix4 s a t h := by
    funext k
    apply Fin.ext
    have := s.isLt
    fin_cases k <;> simp [idx_main_call1_v5] <;> omega
  obtain ⟨w₁, w₂, -, -⟩ := word32 ⟨_, hw⟩
  rw [BitVec.ofNat_toNat, BitVec.setWidth_eq] at w₁ w₂
  rw [val_main_call1_v5_apply, e, val_main_call1_v4_apply, val_main_call1_v1_apply, clip_points, w₁,
    val_main_call1_v0_apply, val_main_call1_c_apply, w₂]
  rfl

/-- The position scores that the relation words name. -/
theorem table_points (s : Fin 1440) (a : Fin 10) (t : Fin 320) (h : Fin 8) (hw : (x11 (ix3 s a t)).toNat < 32) :
    val_main_v17 x3 x11 (ix4 s a t h) = x3 (ix4 s a (Problem.pick 31 (x11 (ix3 s a t))) h) := by
  obtain ⟨-, -, -, w⟩ := word32 ⟨_, hw⟩
  rw [BitVec.ofNat_toNat, BitVec.setWidth_eq] at w
  unfold val_main_v17
  refine (gather_axis_two (N := 32) (by decide) _ rfl rfl rfl rfl rfl rfl rfl x3 _ s a t h).trans ?_
  refine congrArg (fun k => x3 (ix4 s a k h)) (Fin.ext ?_)
  change min (val_main_call1_v5 (F := Ideal) x11 (startAt s a t h)).toInt.toNat 31 = min (x11 (ix3 s a t)).toNat 31
  rw [start_points _ _ _ _ _ hw, w]

/-- The same, with the heads first. -/
theorem scores_points (s : Fin 1440) (h : Fin 8) (a : Fin 10) (t : Fin 320) (hw : (x11 (ix3 s a t)).toNat < 32) :
    val_main_v18 x3 x11 (ix4 s h a t) = x3 (ix4 s a (Problem.pick 31 (x11 (ix3 s a t))) h) := by
  rw [← table_points x3 x11 s a t h hw]
  pointwise [val_main_v18]

/-- No relation word that indexes the table is masked. -/
theorem mask_points (s : Fin 1440) (h : Fin 8) (a : Fin 10) (t : Fin 320) (hw : (x11 (ix3 s a t)).toNat < 32) :
    val_main_call2_v1 (F := Ideal) x11 (ix4 s h a t) = 1#1 := by
  obtain ⟨-, -, w, -⟩ := word32 ⟨_, hw⟩
  rw [BitVec.ofNat_toNat, BitVec.setWidth_eq] at w
  pointwise [val_main_call2_v1, val_main_v21, val_main_v20, val_main_v19, val_main_c_1]
  exact w

/-- The clipped relation words, spread over the heads. -/
theorem clip_agents (s : Fin 1440) (a : Fin 10) (t : Fin 10) (h : Fin 8) :
    val_main_v54 (F := Ideal) x10 (ix4 s a t h) = IntOp.minsi 2#32 (IntOp.maxsi 0#32 (x10 (ix3 s a t))) := by
  pointwise [val_main_v54, val_main_v53, val_main_v52, val_main_call3_v4, val_main_call3_v3, val_main_call3_v2, val_main_call3_v1, val_main_call3_v0, val_main_c_7, val_main_c_8]
  rfl

/-- The start words of the table are the relation words, where those index the table. -/
theorem start_agents (s : Fin 1440) (a : Fin 10) (t : Fin 10) (h : Fin 8) (hw : (x10 (ix3 s a t)).toNat < 3) :
    val_main_call4_v5 (F := Ideal) x10 (startAt s a t h) = x10 (ix3 s a t) := by
  have e : idx_main_call4_v5 (startAt s a t h) = ix4 s a t h := by
    funext k
    apply Fin.ext
    have := s.isLt
    fin_cases k <;> simp [idx_main_call4_v5] <;> omega
  obtain ⟨w₁, w₂, -, -⟩ := word3 ⟨_, hw⟩
  rw [BitVec.ofNat_toNat, BitVec.setWidth_eq] at w₁ w₂
  rw [val_main_call4_v5_apply, e, val_main_call4_v4_apply, val_main_call4_v1_apply, clip_agents, w₁,
    val_main_call4_v0_apply, val_main_call4_c_apply, w₂]
  rfl

/-- The position scores that the relation words name. -/
theorem table_agents (s : Fin 1440) (a : Fin 10) (t : Fin 10) (h : Fin 8) (hw : (x10 (ix3 s a t)).toNat < 3) :
    val_main_v55 x2 x10 (ix4 s a t h) = x2 (ix4 s a (Problem.pick 2 (x10 (ix3 s a t))) h) := by
  obtain ⟨-, -, -, w⟩ := word3 ⟨_, hw⟩
  rw [BitVec.ofNat_toNat, BitVec.setWidth_eq] at w
  unfold val_main_v55
  refine (gather_axis_two (N := 3) (by decide) _ rfl rfl rfl rfl rfl rfl rfl x2 _ s a t h).trans ?_
  refine congrArg (fun k => x2 (ix4 s a k h)) (Fin.ext ?_)
  change min (val_main_call4_v5 (F := Ideal) x10 (startAt s a t h)).toInt.toNat 2 = min (x10 (ix3 s a t)).toNat 2
  rw [start_agents _ _ _ _ _ hw, w]

/-- The same, with the heads first. -/
theorem scores_agents (s : Fin 1440) (h : Fin 8) (a : Fin 10) (t : Fin 10) (hw : (x10 (ix3 s a t)).toNat < 3) :
    val_main_v56 x2 x10 (ix4 s h a t) = x2 (ix4 s a (Problem.pick 2 (x10 (ix3 s a t))) h) := by
  rw [← table_agents x2 x10 s a t h hw]
  pointwise [val_main_v56]

/-- No relation word that indexes the table is masked. -/
theorem mask_agents (s : Fin 1440) (h : Fin 8) (a : Fin 10) (t : Fin 10) (hw : (x10 (ix3 s a t)).toNat < 3) :
    val_main_call5_v1 (F := Ideal) x10 (ix4 s h a t) = 1#1 := by
  obtain ⟨-, -, w, -⟩ := word3 ⟨_, hw⟩
  rw [BitVec.ofNat_toNat, BitVec.setWidth_eq] at w
  pointwise [val_main_call5_v1, val_main_v59, val_main_v58, val_main_v57, val_main_c_9]
  exact w

end Cert.Attention

end
-- ==== Proof.RefCross.lean ====
/- The reference's cross attention at an index: what it makes of a scene is `crossed`. -/
module

public import proofs.«01_k».proof.Proof.RefTable

@[expose] public section

noncomputable section

namespace Cert.Attention

open Idealize.ShloMosaic Cert.ReferenceIdeal Cert.ReferenceIdeal.Gen Cert.ReferenceIdeal.Read

variable (x0 : Vec Ideal S16x10x90x128 .f32) (x1 : Vec Ideal S16x320x90x128 .f32) (x2 : Vec Ideal S1440x10x3x8 .f32)
    (x3 : Vec Ideal S1440x10x32x8 .f32) (x4 x5 x6 x7 : Vec Ideal S128x128 .f32) (x8 : Vec Ideal S128x384 .f32)
    (x9 : Vec Ideal S128x128 .f32) (x10 : Vec Ideal S1440x10x10 .i32) (x11 : Vec Ideal S1440x10x320 .i32)

/-- The word that starts a maximum is below everything. -/
theorem bottom : Ideal.ofBits .f32 0xFF800000#32 = ⊥ := by
  simp [Ideal.ofBits, Ideal.ieee]

/-- The masked scores, where no relation is masked: products over four, plus position scores. -/
theorem cross_scores (s : Fin 1440) (h : Fin 8) (a : Fin 10) (t : Fin 320) (hw : (x11 (ix3 s a t)).toNat < 32) :
    val_main_v23 x0 x1 x3 x4 x5 x11 (ix4 s h a t)
      = Ideal.div (∑ e : Fin 16, val_main_v4 x0 x4 (ix4 s h a e) * val_main_v7 x1 x5 (ix4 s h t e)) four
        + x3 (ix4 s a (Problem.pick 31 (x11 (ix3 s a t))) h) := by
  rw [val_main_v23_apply, mask_points _ _ _ _ _ hw, val_main_v22_apply, ref_products, scores_points _ _ _ _ _ _ hw]
  rfl

/-- The largest entry of a row. -/
theorem row_top (y : Vec Ideal S1440x8x10x320 .f32) (s : Fin 1440) (h : Fin 8) (a : Fin 10) :
    (Host.reduce (FloatOps.maximumf (F := Ideal) (φ := .f32)) y (val_main_cst_3 (F := Ideal)) reducesTo_S1440x8x10x320_S1440x8x10_d3 h_S_ :
        Vec Ideal S1440x8x10 .f32) (ix3 s h a)
      = top fun t => y (ix4 s h a t) := by
  pointwise [val_main_cst_3, top, bottom]

/-- The largest score of a row. -/
theorem cross_top (s : Fin 1440) (h : Fin 8) (a : Fin 10) :
    val_main_v26 x0 x1 x3 x4 x5 x11 (ix3 s h a) = top fun t => val_main_v23 x0 x1 x3 x4 x5 x11 (ix4 s h a t) := by
  rw [val_main_v26_apply, val_main_v24, row_top, val_main_v25_apply, val_main_cst_4_apply]
  exact (congrArg (max · _) bottom).trans (max_eq_right bot_le)

/-- The exponentials. -/
theorem cross_exp (s : Fin 1440) (h : Fin 8) (a : Fin 10) (t : Fin 320) :
    val_main_v30 x0 x1 x3 x4 x5 x11 (ix4 s h a t)
      = Ideal.exp (val_main_v23 x0 x1 x3 x4 x5 x11 (ix4 s h a t) - val_main_v26 x0 x1 x3 x4 x5 x11 (ix3 s h a)) := by
  pointwise [val_main_v30, val_main_v29, val_main_v28, val_main_v27]

/-- The shares. -/
theorem cross_share (s : Fin 1440) (h : Fin 8) (a : Fin 10) (t : Fin 320) :
    val_main_v34 x0 x1 x3 x4 x5 x11 (ix4 s h a t)
      = Ideal.div (val_main_v30 x0 x1 x3 x4 x5 x11 (ix4 s h a t)) (∑ k, val_main_v30 x0 x1 x3 x4 x5 x11 (ix4 s h a k)) := by
  pointwise [val_main_v34, val_main_v33, val_main_v32, val_main_v31, val_main_cst_5]

/-- The heads' means of the values, side by side. -/
theorem cross_mean (s : Fin 1440) (a : Fin 10) (d : Fin 128) :
    val_main_v37 x0 x1 x3 x4 x5 x6 x11 (ix3 s a d)
      = ∑ t : Fin 320, val_main_v34 x0 x1 x3 x4 x5 x11 (ix4 s (headOf d) a t)
          * val_main_v10 x1 x6 (ix4 s (headOf d) t ⟨d.val % 16, by omega⟩) := by
  pointwise [val_main_v37, val_main_v36, val_main_v35, headOf]

/-- The output weights. -/
theorem cross_out (s : Fin 1440) (a : Fin 10) (d : Fin 128) :
    val_main_v38 x0 x1 x3 x4 x5 x6 x7 x11 (ix3 s a d)
      = ∑ c : Fin 128, val_main_v37 x0 x1 x3 x4 x5 x6 x11 (ix3 s a c) * x7 (ix2 c d) := by
  pointwise [val_main_v38]

/-- The lane of a lane's place in its head is the lane. -/
theorem lane_headOf (d : Fin 128) : lane (headOf d) ⟨d.val % 16, by omega⟩ = d :=
  Fin.ext (by simp only [lane, headOf]; omega)

/-- The reference's cross attention over one scene. -/
theorem ref_crossed (s : Fin 1440) (hw : ∀ a t, (x11 (ix3 s a t)).toNat < 32) (a : Fin 10) (d : Fin 128) :
    val_main_v38 x0 x1 x3 x4 x5 x6 x7 x11 (ix3 s a d)
      = (let p := ofArgs x0 x1 x2 x3 x4 x5 x6 x7 x8 x9 x10 x11
         crossed (p.agentsOf s) (p.pointsOf s) (p.pointScoresOf s) p.Wq p.Wk p.Wv p.Wp1 a d) := by
  have q (h : Fin 8) (e : Fin 16) : val_main_v4 x0 x4 (ix4 s h a e)
      = project ((ofArgs x0 x1 x2 x3 x4 x5 x6 x7 x8 x9 x10 x11).agentsOf s a) (fun b c => x4 (ix2 b c)) (lane h e) := by
    rw [ref_queries, project]
    exact Finset.sum_congr rfl fun c _ => by rw [ref_agents x0 x1 x2 x3 x4 x5 x6 x7 x8 x9 x10 x11]
  have k (h : Fin 8) (t : Fin 320) (e : Fin 16) : val_main_v7 x1 x5 (ix4 s h t e)
      = project ((ofArgs x0 x1 x2 x3 x4 x5 x6 x7 x8 x9 x10 x11).pointsOf s t) (fun b c => x5 (ix2 b c)) (lane h e) := by
    rw [ref_keys, project]
    exact Finset.sum_congr rfl fun c _ => by rw [ref_points x0 x1 x2 x3 x4 x5 x6 x7 x8 x9 x10 x11]
  have v (h : Fin 8) (t : Fin 320) (e : Fin 16) : val_main_v10 x1 x6 (ix4 s h t e)
      = project ((ofArgs x0 x1 x2 x3 x4 x5 x6 x7 x8 x9 x10 x11).pointsOf s t) (fun b c => x6 (ix2 b c)) (lane h e) := by
    rw [ref_values, project]
    exact Finset.sum_congr rfl fun c _ => by rw [ref_points x0 x1 x2 x3 x4 x5 x6 x7 x8 x9 x10 x11]
  rw [cross_out]
  refine Finset.sum_congr rfl fun c _ => congrArg (· * x7 (ix2 c d)) ?_
  rw [cross_mean]
  simp only [cross_share, cross_exp, cross_top, cross_scores _ _ _ _ _ _ _ _ _ _ (hw _ _), q, k, v, lane_headOf]
  rfl

end Cert.Attention

end
-- ==== Proof.Pre.lean ====
/- What the precondition says of the arguments: the numbers are finite and the relations are in range. -/
module

public import proofs.«01_k».proof.Defs
public import proofs.«01_k».proof.Proof.Array
public import proofs.«01_k».proof.Proof.RefCross

@[expose] public section

noncomputable section

namespace Cert.Attention

open Idealize.ShloMosaic

/-- The shape relations the precondition's operations state. -/
theorem pre_facts : Cert.Pre_finite_in_range.Facts where
  bcast_S_S16x10x90x128 := by decide
  bcast_S_S16x320x90x128 := by decide
  bcast_S_S1440x10x3x8 := by decide
  bcast_S_S1440x10x32x8 := by decide
  bcast_S_S128x128 := by decide
  bcast_S_S128x384 := by decide
  bcast_S_S1440x10x10 := by decide
  bcast_S_S1440x10x320 := by decide

/-- The positive infinity's word. -/
theorem top_word : Ideal.ofBits .f32 0x7F800000#32 = ⊤ := by
  simp [Ideal.ofBits, Ideal.ieee]

/-- An array whose absolute values all compare below infinity is finite at every index. -/
theorem finite_of_olt {S S₀ : Shape} {x : Vec Ideal S .f32} {d : Fin S₀.rank → Fin S.rank} {hb : S₀.BroadcastsInDim S d}
    (h : cmpf (F := Ideal) .olt (Host.absf x) (broadcastInDim S d hb (constant S₀ .f32 0x7F800000#32)) = fun _ => 1#1)
    (i : S.Idx) : Finite (x i) := by
  have e := congrFun h i
  change BitVec.ofBool (decide (max (x i) (-(x i)) < Ideal.ofBits .f32 0x7F800000#32)) = 1#1 at e
  rw [top_word] at e
  refine finite_of_abs_lt ?_
  by_contra hn
  simp [hn] at e

/-- A word that is not negative and lies below `n`, both as a signed number, is a natural number below `n`. -/
theorem toNat_lt_of_range {w : BitVec 32} (n : ℕ) (hn : n < 2 ^ 31)
    (h : BitVec.ofBool (BitVec.sle 0#32 w) &&& BitVec.ofBool (BitVec.slt w (BitVec.ofNat 32 n)) = 1#1) : w.toNat < n := by
  have h1 : BitVec.sle 0#32 w = true := by
    by_contra hc; simp only [Bool.not_eq_true] at hc; rw [hc] at h; simp at h
  have h2 : BitVec.slt w (BitVec.ofNat 32 n) = true := by
    by_contra hc; simp only [Bool.not_eq_true] at hc; rw [hc] at h; simp at h
  have hw := w.isLt
  simp only [BitVec.sle, BitVec.slt, decide_eq_true_eq, BitVec.toInt_eq_toNat_cond, BitVec.toNat_ofNat] at h1 h2
  rw [Nat.mod_eq_of_lt (by omega : n < 2 ^ 32)] at h2
  split_ifs at h1 h2 <;> omega

/-- An array of words that all compare at least zero and below `n` holds natural numbers below `n`. -/
theorem range_of_cmpi {S S₀ : Shape} {x : IVec S 32} {d : Fin S₀.rank → Fin S.rank} {hb : S₀.BroadcastsInDim S d}
    (n : ℕ) (hn : n < 2 ^ 31)
    (h : andi (cmpi .sge x (broadcastInDim S d hb (constantI S₀ 32 0#32)))
      (cmpi .slt x (broadcastInDim S d hb (constantI S₀ 32 (BitVec.ofNat 32 n)))) = fun _ => 1#1)
    (i : S.Idx) : (x i).toNat < n :=
  toNat_lt_of_range n hn (congrFun h i)

section

variable [Cert.Pre_finite_in_range.Facts]
variable (m : (ℓ : Loc Cert.KernelIdeal.nD Cert.KernelIdeal.τ Cert.KernelIdeal.sig) → Buf (Elt Ideal) ℓ)
  (c : Dev Cert.KernelIdeal.nD)

/-- Under the precondition the numbers of the problem are finite and its relations in range. -/
theorem good (h : Cert.Pre_KernelIdeal_finite_in_range m) : (problem m c).Good := by
  obtain ⟨h0, h1, h2, h3, h4, h5, h6, h7, h8, h9, h10⟩ := h c
  exact
    { agents := fun _ _ _ _ => finite_of_olt h0 _
      points := fun _ _ _ _ => finite_of_olt h1 _
      agentScores := fun _ _ _ _ => finite_of_olt h2 _
      pointScores := fun _ _ _ _ => finite_of_olt h3 _
      Wq := fun _ _ => finite_of_olt h4 _
      Wk := fun _ _ => finite_of_olt h5 _
      Wv := fun _ _ => finite_of_olt h6 _
      Wp1 := fun _ _ => finite_of_olt h7 _
      Wca := fun _ _ => finite_of_olt h8 _
      agentRel := fun _ _ _ => range_of_cmpi 3 (by omega) h9 _
      pointRel := fun _ _ _ => range_of_cmpi 32 (by omega) h10 _ }

end

end Cert.Attention

end
-- ==== Proof.RefSelf.lean ====
/- The reference's self attention at an index, and its answer. -/
module

public import proofs.«01_k».proof.Proof.RefCross

@[expose] public section

noncomputable section

namespace Cert.Attention

open Idealize.ShloMosaic Cert.ReferenceIdeal Cert.ReferenceIdeal.Gen Cert.ReferenceIdeal.Read

variable (x0 : Vec Ideal S16x10x90x128 .f32) (x1 : Vec Ideal S16x320x90x128 .f32) (x2 : Vec Ideal S1440x10x3x8 .f32)
    (x3 : Vec Ideal S1440x10x32x8 .f32) (x4 x5 x6 x7 : Vec Ideal S128x128 .f32) (x8 : Vec Ideal S128x384 .f32)
    (x9 : Vec Ideal S128x128 .f32) (x10 : Vec Ideal S1440x10x10 .i32) (x11 : Vec Ideal S1440x10x320 .i32)

/-- The rows through the weights of queries, keys and values together. -/
theorem self_rows (s : Fin 1440) (a : Fin 10) (d : Fin 384) :
    val_main_v39 x0 x1 x3 x4 x5 x6 x7 x8 x11 (ix3 s a d)
      = ∑ c : Fin 128, val_main_v38 x0 x1 x3 x4 x5 x6 x7 x11 (ix3 s a c) * x8 (ix2 c d) := by
  pointwise [val_main_v39]

/-- The self attention's queries: the first part of the rows, split by head. -/
theorem self_queries (s : Fin 1440) (h : Fin 8) (a : Fin 10) (e : Fin 16) :
    val_main_v44 x0 x1 x3 x4 x5 x6 x7 x8 x11 (ix4 s h a e)
      = part (fun d => val_main_v39 x0 x1 x3 x4 x5 x6 x7 x8 x11 (ix3 s a d)) 0 (lane h e) := by
  pointwise [val_main_v44, val_main_v43, val_main_v40, part, lane]

/-- The self attention's keys: the second part. -/
theorem self_keys (s : Fin 1440) (h : Fin 8) (a : Fin 10) (e : Fin 16) :
    val_main_v46 x0 x1 x3 x4 x5 x6 x7 x8 x11 (ix4 s h a e)
      = part (fun d => val_main_v39 x0 x1 x3 x4 x5 x6 x7 x8 x11 (ix3 s a d)) 1 (lane h e) := by
  pointwise [val_main_v46, val_main_v45, val_main_v41, part, lane]

/-- The self attention's values: the third part. -/
theorem self_values (s : Fin 1440) (h : Fin 8) (a : Fin 10) (e : Fin 16) :
    val_main_v48 x0 x1 x3 x4 x5 x6 x7 x8 x11 (ix4 s h a e)
      = part (fun d => val_main_v39 x0 x1 x3 x4 x5 x6 x7 x8 x11 (ix3 s a d)) 2 (lane h e) := by
  pointwise [val_main_v48, val_main_v47, val_main_v42, part, lane]

/-- The self attention's products of queries and keys, over four. -/
theorem self_products (s : Fin 1440) (h : Fin 8) (a b : Fin 10) :
    val_main_v51 x0 x1 x3 x4 x5 x6 x7 x8 x11 (ix4 s h a b)
      = Ideal.div (∑ e : Fin 16, val_main_v44 x0 x1 x3 x4 x5 x6 x7 x8 x11 (ix4 s h a e)
          * val_main_v46 x0 x1 x3 x4 x5 x6 x7 x8 x11 (ix4 s h b e)) four := by
  pointwise [val_main_v51, val_main_v50, val_main_cst_6, val_main_v49, four]

/-- The masked scores, where no relation is masked: products over four, plus position scores. -/
theorem self_scores (s : Fin 1440) (h : Fin 8) (a b : Fin 10) (hw : (x10 (ix3 s a b)).toNat < 3) :
    val_main_v61 x0 x1 x2 x3 x4 x5 x6 x7 x8 x10 x11 (ix4 s h a b)
      = Ideal.div (∑ e : Fin 16, val_main_v44 x0 x1 x3 x4 x5 x6 x7 x8 x11 (ix4 s h a e)
          * val_main_v46 x0 x1 x3 x4 x5 x6 x7 x8 x11 (ix4 s h b e)) four
        + x2 (ix4 s a (Problem.pick 2 (x10 (ix3 s a b))) h) := by
  rw [val_main_v61_apply, mask_agents _ _ _ _ _ hw, val_main_v60_apply, self_products, scores_agents _ _ _ _ _ _ hw]
  rfl

/-- The largest entry of a row. -/
theorem row_top' (y : Vec Ideal S1440x8x10x10 .f32) (s : Fin 1440) (h : Fin 8) (a : Fin 10) :
    (Host.reduce (FloatOps.maximumf (F := Ideal) (φ := .f32)) y (val_main_cst_11 (F := Ideal)) reducesTo_S1440x8x10x10_S1440x8x10_d3 h_S_ :
        Vec Ideal S1440x8x10 .f32) (ix3 s h a)
      = top fun t => y (ix4 s h a t) := by
  pointwise [val_main_cst_11, top, bottom]

/-- The largest score of a row. -/
theorem self_top (s : Fin 1440) (h : Fin 8) (a : Fin 10) :
    val_main_v64 x0 x1 x2 x3 x4 x5 x6 x7 x8 x10 x11 (ix3 s h a)
      = top fun b => val_main_v61 x0 x1 x2 x3 x4 x5 x6 x7 x8 x10 x11 (ix4 s h a b) := by
  rw [val_main_v64_apply, val_main_v62, row_top', val_main_v63_apply, val_main_cst_12_apply]
  exact (congrArg (max · _) bottom).trans (max_eq_right bot_le)

/-- The exponentials. -/
theorem self_exp (s : Fin 1440) (h : Fin 8) (a b : Fin 10) :
    val_main_v68 x0 x1 x2 x3 x4 x5 x6 x7 x8 x10 x11 (ix4 s h a b)
      = Ideal.exp (val_main_v61 x0 x1 x2 x3 x4 x5 x6 x7 x8 x10 x11 (ix4 s h a b)
          - val_main_v64 x0 x1 x2 x3 x4 x5 x6 x7 x8 x10 x11 (ix3 s h a)) := by
  pointwise [val_main_v68, val_main_v67, val_main_v66, val_main_v65]

/-- The shares. -/
theorem self_share (s : Fin 1440) (h : Fin 8) (a b : Fin 10) :
    val_main_v72 x0 x1 x2 x3 x4 x5 x6 x7 x8 x10 x11 (ix4 s h a b)
      = Ideal.div (val_main_v68 x0 x1 x2 x3 x4 x5 x6 x7 x8 x10 x11 (ix4 s h a b))
          (∑ k, val_main_v68 x0 x1 x2 x3 x4 x5 x6 x7 x8 x10 x11 (ix4 s h a k)) := by
  pointwise [val_main_v72, val_main_v71, val_main_v70, val_main_v69, val_main_cst_13]

/-- The heads' means of the values, side by side. -/
theorem self_mean (s : Fin 1440) (a : Fin 10) (d : Fin 128) :
    val_main_v75 x0 x1 x2 x3 x4 x5 x6 x7 x8 x10 x11 (ix3 s a d)
      = ∑ b : Fin 10, val_main_v72 x0 x1 x2 x3 x4 x5 x6 x7 x8 x10 x11 (ix4 s (headOf d) a b)
          * val_main_v48 x0 x1 x3 x4 x5 x6 x7 x8 x11 (ix4 s (headOf d) b ⟨d.val % 16, by omega⟩) := by
  pointwise [val_main_v75, val_main_v74, val_main_v73, headOf]

/-- The output weights. -/
theorem self_out (s : Fin 1440) (a : Fin 10) (d : Fin 128) :
    val_main_v76 x0 x1 x2 x3 x4 x5 x6 x7 x8 x9 x10 x11 (ix3 s a d)
      = ∑ c : Fin 128, val_main_v75 x0 x1 x2 x3 x4 x5 x6 x7 x8 x10 x11 (ix3 s a c) * x9 (ix2 c d) := by
  pointwise [val_main_v76]

/-- The reference's answer for a scene is the problem's. -/
theorem ref_answer (s : Fin 1440) (hw : ∀ a t, (x11 (ix3 s a t)).toNat < 32) (hw' : ∀ a b, (x10 (ix3 s a b)).toNat < 3)
    (a : Fin 10) (d : Fin 128) : val_main_v76 x0 x1 x2 x3 x4 x5 x6 x7 x8 x9 x10 x11 (ix3 s a d)
      = (ofArgs x0 x1 x2 x3 x4 x5 x6 x7 x8 x9 x10 x11).answer s a d := by
  rw [self_out]
  refine Finset.sum_congr rfl fun c _ => congrArg (· * x9 (ix2 c d)) ?_
  rw [self_mean]
  simp only [self_share, self_exp, self_top, self_scores _ _ _ _ _ _ _ _ _ _ _ _ _ _ _ (hw' _ _), self_queries, self_keys,
    self_values, self_rows, ref_crossed x0 x1 x2 x3 x4 x5 x6 x7 x8 x9 x10 x11 s hw, lane_headOf]
  rfl

end Cert.Attention

end
-- ==== Proof.Claims.lean ====
/- The claims: the frames, the named mask, and the equality of the kernel's result with the reference's. -/
module

public import proofs.«01_k».proof.Defs
public import proofs.«01_k».proof.Proof.Gen.Kernel.Frame
public import proofs.«01_k».proof.Proof.Gen.KernelIdeal.Frame
public import proofs.«01_k».proof.Proof.Pre
public import proofs.«01_k».proof.Proof.RefSelf

@[expose] public section

noncomputable section

namespace Cert.Attention

open Idealize.ShloMosaic Idealize.SL.Sem

/-- The kernel keeps its arguments and leaves every counter at zero. -/
theorem frame_p : Cert.quiescent_Kernel := fun m ρ _ => Cert.Kernel.Gen.frame m ρ

/-- The kernel at real numbers keeps its arguments and leaves every counter at zero. -/
theorem frame_pi : Cert.quiescent_KernelIdeal := fun m ρ _ => Cert.KernelIdeal.Gen.frame m ρ

/-- The same of the inputs the precondition allows. -/
theorem frame_pi_pre [Cert.Pre_finite_in_range.Facts] : Cert.quiescent_KernelIdeal_pre_finite_in_range :=
  fun m ρ _ => Cert.KernelIdeal.Gen.frame m ρ

/-- The reference keeps its arguments and leaves every counter at zero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the inputs the precondition allows. -/
theorem frame_ri_pre [Cert.Pre_finite_in_range.Facts] : Cert.quiescent_ReferenceIdeal_pre_finite_in_range :=
  fun m ρ _ => frame_ri m ρ trivial

/-- The one named constant is the mask's word, standing for minus infinity. -/
theorem preserves : Cert.preserves_Kernel_KernelIdeal :=
  IdealRules.named_const.statement Cert.KernelIdeal.κ "mask" .f32 0xF149F2CA#32 ⊥ rfl

/-- The array of the answers of every scene. -/
def answers (p : Problem) : Vec Ideal Cert.ReferenceIdeal.S1440x10x128 .f32 := fun y => p.answer (y 0) (y 1) (y 2)

/-- Run under the precondition, the kernel ends with the array of answers and its arguments kept. -/
theorem kernel_answers [Cert.Pre_finite_in_range.Facts]
    (m : (ℓ : Loc Cert.KernelIdeal.nD Cert.KernelIdeal.τ Cert.KernelIdeal.sig) → Buf (Elt Ideal) ℓ)
    (h : Cert.Pre_KernelIdeal_finite_in_range m) (c : Dev Cert.KernelIdeal.nD) :
    (Cert.KernelIdeal.Gen.dats m 0 c).arrAt 16 Cert.KernelIdeal.cfg0.N = answers (problem m c) :=
  final m c (good m c h)

/-- The reference's result is the array of the answers of its arguments' problem, a good one; the arguments are given by arrays
equal to them. -/
theorem reference_answers (x0 : Vec Ideal Cert.ReferenceIdeal.S16x10x90x128 .f32)
    (x1 : Vec Ideal Cert.ReferenceIdeal.S16x320x90x128 .f32) (x2 : Vec Ideal Cert.ReferenceIdeal.S1440x10x3x8 .f32)
    (x3 : Vec Ideal Cert.ReferenceIdeal.S1440x10x32x8 .f32) (x4 x5 x6 x7 : Vec Ideal Cert.ReferenceIdeal.S128x128 .f32)
    (x8 : Vec Ideal Cert.ReferenceIdeal.S128x384 .f32) (x9 : Vec Ideal Cert.ReferenceIdeal.S128x128 .f32)
    (x10 : Vec Ideal Cert.ReferenceIdeal.S1440x10x10 .i32) (x11 : Vec Ideal Cert.ReferenceIdeal.S1440x10x320 .i32)
    (y0 : Vec Ideal Cert.ReferenceIdeal.S16x10x90x128 .f32)
    (y1 : Vec Ideal Cert.ReferenceIdeal.S16x320x90x128 .f32) (y2 : Vec Ideal Cert.ReferenceIdeal.S1440x10x3x8 .f32)
    (y3 : Vec Ideal Cert.ReferenceIdeal.S1440x10x32x8 .f32) (y4 y5 y6 y7 : Vec Ideal Cert.ReferenceIdeal.S128x128 .f32)
    (y8 : Vec Ideal Cert.ReferenceIdeal.S128x384 .f32) (y9 : Vec Ideal Cert.ReferenceIdeal.S128x128 .f32)
    (y10 : Vec Ideal Cert.ReferenceIdeal.S1440x10x10 .i32) (y11 : Vec Ideal Cert.ReferenceIdeal.S1440x10x320 .i32)
    (e0 : y0 = x0) (e1 : y1 = x1) (e2 : y2 = x2) (e3 : y3 = x3) (e4 : y4 = x4) (e5 : y5 = x5) (e6 : y6 = x6) (e7 : y7 = x7)
    (e8 : y8 = x8) (e9 : y9 = x9) (e10 : y10 = x10) (e11 : y11 = x11)
    (hg : (ofArgs x0 x1 x2 x3 x4 x5 x6 x7 x8 x9 x10 x11).Good) :
    Cert.ReferenceIdeal.Read.val_main_v76 (F := Ideal) y0 y1 y2 y3 y4 y5 y6 y7 y8 y9 y10 y11
      = answers (ofArgs x0 x1 x2 x3 x4 x5 x6 x7 x8 x9 x10 x11) := by
  subst e0 e1 e2 e3 e4 e5 e6 e7 e8 e9 e10 e11
  funext y
  obtain ⟨s, a, d, rfl⟩ : ∃ s a d, y = ix3 s a d := ⟨y 0, y 1, y 2, by funext k; fin_cases k <;> rfl⟩
  exact ref_answer _ _ _ _ _ _ _ _ _ _ _ _ s (fun a t => hg.pointRel s a t) (fun a b => hg.agentRel s a b) a d

/-- On the inputs the precondition allows the kernel's result is the reference's: both are the problem's answers. -/
theorem algebraic [Cert.Pre_finite_in_range.Facts] : Cert.algebraic_KernelIdeal_ReferenceIdeal_pre_finite_in_range := by
  intro m ρ m' ρ' hpre hagree
  refine ⟨fun c => answers (problem m c), ?_, ?_⟩
  · refine (θ_run Cert.KernelIdeal.defs _ _).mono (fun _ h c => ?_) (Cert.KernelIdeal.Value.run_blocks m ρ)
    exact ⟨(h c).1.trans (kernel_answers m hpre c), (h c).2⟩
  · refine (θ_run Cert.ReferenceIdeal.defs _ _).mono (fun _ h c => ?_) (Cert.ReferenceIdeal.Value.run (F := Ideal) m' ρ')
    refine ⟨(h c).1.trans ?_, (h c).2⟩
    refine (Cert.ReferenceIdeal.Read.val_main_v76_eq (StableHlo.launchContents m' c)).trans ?_
    obtain ⟨e0, e1, e2, e3, e4, e5, e6, e7, e8, e9, e10, e11⟩ := hagree c
    exact reference_answers _ _ _ _ _ _ _ _ _ _ _ _ _ _ _ _ _ _ _ _ _ _ _ _ e0 e1 e2 e3 e4 e5 e6 e7 e8 e9 e10 e11
      (good m c hpre)

end Cert.Attention

end
-- ==== Proof.lean ====
/- The claim: the programs' stated facts, the three frames, the named mask, and the equality with the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims

@[expose] public section

noncomputable section

namespace Cert.Proof

open Cert.Attention

/-- Everything the certificate claims. -/
theorem claim : Cert.Claim :=
  ⟨Cert.Kernel.Gen.facts, Cert.KernelIdeal.Gen.facts, Cert.ReferenceIdeal.Gen.facts, pre_facts, frame_p, frame_pi,
    @frame_pi_pre pre_facts, frame_ri, @frame_ri_pre pre_facts, preserves, @algebraic pre_facts⟩

end Cert.Proof

end
